-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x2048 : Shape := ⟨3, ![16, 256, 2048]⟩
abbrev S16 : Shape := ⟨1, ![16]⟩
abbrev S256x21 : Shape := ⟨2, ![256, 21]⟩
abbrev S16x256x1 : Shape := ⟨3, ![16, 256, 1]⟩
abbrev S1x32x2048 : Shape := ⟨3, ![1, 32, 2048]⟩
abbrev S32x21 : Shape := ⟨2, ![32, 21]⟩
abbrev S1x32x1 : Shape := ⟨3, ![1, 32, 1]⟩
abbrev S1 : Shape := ⟨1, ![1]⟩
abbrev S1x2048 : Shape := ⟨2, ![1, 2048]⟩
abbrev S32x2048 : Shape := ⟨2, ![32, 2048]⟩
abbrev S32x2047 : Shape := ⟨2, ![32, 2047]⟩
abbrev S32x1 : Shape := ⟨2, ![32, 1]⟩
abbrev S32x2046 : Shape := ⟨2, ![32, 2046]⟩
abbrev S32x2 : Shape := ⟨2, ![32, 2]⟩
abbrev S32x2044 : Shape := ⟨2, ![32, 2044]⟩
abbrev S32x4 : Shape := ⟨2, ![32, 4]⟩
abbrev S32x2040 : Shape := ⟨2, ![32, 2040]⟩
abbrev S32x8 : Shape := ⟨2, ![32, 8]⟩
abbrev S32x2032 : Shape := ⟨2, ![32, 2032]⟩
abbrev S32x16 : Shape := ⟨2, ![32, 16]⟩
abbrev S32x2016 : Shape := ⟨2, ![32, 2016]⟩
abbrev S32x32 : Shape := ⟨2, ![32, 32]⟩
abbrev S32x1984 : Shape := ⟨2, ![32, 1984]⟩
abbrev S32x64 : Shape := ⟨2, ![32, 64]⟩
abbrev S32x1920 : Shape := ⟨2, ![32, 1920]⟩
abbrev S32x128 : Shape := ⟨2, ![32, 128]⟩
abbrev S32x1792 : Shape := ⟨2, ![32, 1792]⟩
abbrev S32x256 : Shape := ⟨2, ![32, 256]⟩
abbrev S32x1536 : Shape := ⟨2, ![32, 1536]⟩
abbrev S32x512 : Shape := ⟨2, ![32, 512]⟩
abbrev S32x1024 : Shape := ⟨2, ![32, 1024]⟩
abbrev S32 : Shape := ⟨1, ![32]⟩
abbrev S16x256 : Shape := ⟨2, ![16, 256]⟩

abbrev nBuf : Space → Nat
  | .hbm => 5
  | .vmem => 8
  | .smem => 1
  | _ => 0

abbrev bufTy : (tb : Table) → Fin (tcTables nBuf tb) → BufTy
  | .hbm, ⟨0, _⟩ => ⟨S16x256x2048, .f32⟩
  | .hbm, ⟨1, _⟩ => ⟨S256x21, .f32⟩
  | .hbm, ⟨2, _⟩ => ⟨S16x256x1, .f32⟩
  | .hbm, ⟨3, _⟩ => ⟨S16x256x2048, .i32⟩
  | .hbm, ⟨4, _⟩ => ⟨S16x256, .f32⟩
  | .local _ .vmem, ⟨0, _⟩ => ⟨S1x32x2048, .f32⟩
  | .local _ .vmem, ⟨1, _⟩ => ⟨S1x32x2048, .f32⟩
  | .local _ .vmem, ⟨2, _⟩ => ⟨S32x21, .f32⟩
  | .local _ .vmem, ⟨3, _⟩ => ⟨S32x21, .f32⟩
  | .local _ .vmem, ⟨4, _⟩ => ⟨S1x32x1, .f32⟩
  | .local _ .vmem, ⟨5, _⟩ => ⟨S1x32x1, .f32⟩
  | .local _ .vmem, ⟨6, _⟩ => ⟨S1x32x2048, .i32⟩
  | .local _ .vmem, ⟨7, _⟩ => ⟨S1x32x2048, .i32⟩
  | .local _ .smem, ⟨0, _⟩ => ⟨S16, .i32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x21 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x256x2048 : Shape := ⟨3, ![16, 256, 2048]⟩
abbrev S16 : Shape := ⟨1, ![16]⟩
abbrev S256x21 : Shape := ⟨2, ![256, 21]⟩
abbrev S2048 : Shape := ⟨1, ![2048]⟩
abbrev S_ : Shape := ⟨0, ![]⟩
abbrev S16x1 : Shape := ⟨2, ![16, 1]⟩
abbrev S1x2048 : Shape := ⟨2, ![1, 2048]⟩
abbrev S16x2048 : Shape := ⟨2, ![16, 2048]⟩
abbrev S16x1x2048 : Shape := ⟨3, ![16, 1, 2048]⟩
abbrev S1x256x21 : Shape := ⟨3, ![1, 256, 21]⟩
abbrev S16x256x21 : Shape := ⟨3, ![16, 256, 21]⟩
abbrev S16x256x2048x1 : Shape := ⟨4, ![16, 256, 2048, 1]⟩
abbrev S1 : Shape := ⟨1, ![1]⟩
abbrev S1x1x1x1 : Shape := ⟨4, ![1, 1, 1, 1]⟩
abbrev S16x256 : Shape := ⟨2, ![16, 256]⟩

abbrev nBuf : Space → Nat
  | .hbm => 146
  | .vmem => 0
  | .smem => 0
  | _ => 0

abbrev hbmTy0_0 (i : Nat) : BufTy := match i % 128 with
  | 0 => ⟨S16x256x2048, .f32⟩
  | 1 => ⟨S16, .i32⟩
  | 2 => ⟨S256x21, .f32⟩
  | 3 => ⟨S2048, .i32⟩
  | 4 => ⟨S_, .i32⟩
  | 5 => ⟨S16, .i32⟩
  | 6 => ⟨S16, .i32⟩
  | 7 => ⟨S_, .i32⟩
  | 8 => ⟨S_, .i32⟩
  | 9 => ⟨S16, .i32⟩
  | 10 => ⟨S16, .i32⟩
  | 11 => ⟨S16x1, .i32⟩
  | 12 => ⟨S_, .i32⟩
  | 13 => ⟨S16, .i32⟩
  | 14 => ⟨S16, .i1⟩
  | 15 => ⟨S16x1, .i1⟩
  | 16 => ⟨S1x2048, .i32⟩
  | 17 => ⟨S16x1, .f32⟩
  | 18 => ⟨S_, .f32⟩
  | 19 => ⟨S16x1, .f32⟩
  | 20 => ⟨S16x1, .f32⟩
  | 21 => ⟨S1x2048, .f32⟩
  | 22 => ⟨S16x2048, .f32⟩
  | 23 => ⟨S16x2048, .f32⟩
  | 24 => ⟨S16x2048, .f32⟩
  | 25 => ⟨S1x2048, .i32⟩
  | 26 => ⟨S1x2048, .f32⟩
  | 27 => ⟨S16x1, .f32⟩
  | 28 => ⟨S16x2048, .f32⟩
  | 29 => ⟨S16x2048, .f32⟩
  | 30 => ⟨S16x2048, .f32⟩
  | 31 => ⟨S16x2048, .f32⟩
  | 32 => ⟨S16x2048, .i1⟩
  | 33 => ⟨S16x2048, .f32⟩
  | 34 => ⟨S_, .f32⟩
  | 35 => ⟨S16x2048, .f32⟩
  | 36 => ⟨S16x2048, .i1⟩
  | 37 => ⟨S_, .f32⟩
  | 38 => ⟨S16x2048, .f32⟩
  | 39 => ⟨S16x2048, .f32⟩
  | 40 => ⟨S16x1x2048, .i1⟩
  | 41 => ⟨S16x256x2048, .i1⟩
  | 42 => ⟨S16x256x2048, .f32⟩
  | 43 => ⟨S1x256x21, .f32⟩
  | 44 => ⟨S16x256x21, .f32⟩
  | 45 => ⟨S_, .f32⟩
  | 46 => ⟨S16x2048, .f32⟩
  | 47 => ⟨S16x2048, .f32⟩
  | 48 => ⟨S16x1x2048, .f32⟩
  | 49 => ⟨S16x256x2048, .f32⟩
  | 50 => ⟨S16x256x2048, .i32⟩
  | 51 => ⟨S16x256x2048, .f32⟩
  | 52 => ⟨S16x256x2048, .f32⟩
  | 53 => ⟨S_, .i32⟩
  | 54 => ⟨S16x256x2048, .i32⟩
  | 55 => ⟨S16x256x2048, .i1⟩
  | 56 => ⟨S_, .i32⟩
  | 57 => ⟨S16x256x2048, .i32⟩
  | 58 => ⟨S16x256x2048, .i32⟩
  | 59 => ⟨S16x256x2048, .i32⟩
  | 60 => ⟨S16x256x2048x1, .i32⟩
  | 61 => ⟨S1, .i32⟩
  | 62 => ⟨S_, .i32⟩
  | 63 => ⟨S16x256x2048x1, .i32⟩
  | 64 => ⟨S16x256x2048x1, .i1⟩
  | 65 => ⟨S1x1x1x1, .i32⟩
  | 66 => ⟨S16x256x2048x1, .i32⟩
  | 67 => ⟨S16x256x2048x1, .i1⟩
  | 68 => ⟨S16x256x2048x1, .i1⟩
  | 69 => ⟨S_, .i1⟩
  | 70 => ⟨S16x256x2048, .i1⟩
  | 71 => ⟨S16x256x2048, .f32⟩
  | 72 => ⟨S_, .f32⟩
  | 73 => ⟨S16x256x2048, .f32⟩
  | 74 => ⟨S16x256x2048, .f32⟩
  | 75 => ⟨S_, .i32⟩
  | 76 => ⟨S16x256x2048, .i32⟩
  | 77 => ⟨S16x256x2048, .i32⟩
  | 78 => ⟨S_, .i32⟩
  | 79 => ⟨S16x256x2048, .i32⟩
  | 80 => ⟨S16x256x2048, .i32⟩
  | 81 => ⟨S_, .i32⟩
  | 82 => ⟨S16x256x2048, .i32⟩
  | 83 => ⟨S16x256x2048, .i1⟩
  | 84 => ⟨S_, .i32⟩
  | 85 => ⟨S16x256x2048, .i32⟩
  | 86 => ⟨S16x256x2048, .i32⟩
  | 87 => ⟨S16x256x2048, .i32⟩
  | 88 => ⟨S16x256x2048x1, .i32⟩
  | 89 => ⟨S1, .i32⟩
  | 90 => ⟨S_, .i32⟩
  | 91 => ⟨S16x256x2048x1, .i32⟩
  | 92 => ⟨S16x256x2048x1, .i1⟩
  | 93 => ⟨S1x1x1x1, .i32⟩
  | 94 => ⟨S16x256x2048x1, .i32⟩
  | 95 => ⟨S16x256x2048x1, .i1⟩
  | 96 => ⟨S16x256x2048x1, .i1⟩
  | 97 => ⟨S_, .i1⟩
  | 98 => ⟨S16x256x2048, .i1⟩
  | 99 => ⟨S16x256x2048, .f32⟩
  | 100 => ⟨S_, .f32⟩
  | 101 => ⟨S16x256x2048, .f32⟩
  | 102 => ⟨S16x256x2048, .f32⟩
  | 103 => ⟨S_, .f32⟩
  | 104 => ⟨S16x256x2048, .f32⟩
  | 105 => ⟨S16x256x2048, .f32⟩
  | 106 => ⟨S16x256x2048, .f32⟩
  | 107 => ⟨S16x256x2048, .f32⟩
  | 108 => ⟨S16x256x2048, .f32⟩
  | 109 => ⟨S_, .f32⟩
  | 110 => ⟨S16x256x2048, .f32⟩
  | 111 => ⟨S16x256x2048, .f32⟩
  | 112 => ⟨S_, .f32⟩
  | 113 => ⟨S16x256x2048, .f32⟩
  | 114 => ⟨S16x256x2048, .f32⟩
  | 115 => ⟨S16x256x2048, .f32⟩
  | 116 => ⟨S16x256x2048, .i32⟩
  | 117 => ⟨S16x256x2048, .f32⟩
  | 118 => ⟨S16x256x2048, .i32⟩
  | 119 => ⟨S16x256x2048, .i32⟩
  | 120 => ⟨S_, .i32⟩
  | 121 => ⟨S16x256x2048, .i32⟩
  | 122 => ⟨S16x256x2048, .i1⟩
  | 123 => ⟨S_, .i32⟩
  | 124 => ⟨S16x256x2048, .i32⟩
  | 125 => ⟨S16x256x2048, .i32⟩
  | 126 => ⟨S16x256x2048, .i32⟩
  | 127 => ⟨S16x256x2048x1, .i32⟩
  | _ => ⟨S16x256x2048, .f32⟩

abbrev hbmTy0_1 (i : Nat) : BufTy := match i % 128 with
  | 0 => ⟨S1, .i32⟩
  | 1 => ⟨S_, .i32⟩
  | 2 => ⟨S16x256x2048x1, .i32⟩
  | 3 => ⟨S16x256x2048x1, .i1⟩
  | 4 => ⟨S1x1x1x1, .i32⟩
  | 5 => ⟨S16x256x2048x1, .i32⟩
  | 6 => ⟨S16x256x2048x1, .i1⟩
  | 7 => ⟨S16x256x2048x1, .i1⟩
  | 8 => ⟨S_, .i1⟩
  | 9 => ⟨S16x256x2048, .i1⟩
  | 10 => ⟨S16x256x2048, .f32⟩
  | 11 => ⟨S_, .f32⟩
  | 12 => ⟨S16x256x2048, .f32⟩
  | 13 => ⟨S16x256x2048, .f32⟩
  | 14 => ⟨S16x256x2048, .f32⟩
  | 15 => ⟨S16x256x2048, .f32⟩
  | 16 => ⟨S_, .f32⟩
  | 17 => ⟨S16x256, .f32⟩
  | _ => ⟨S16x256x2048, .f32⟩

abbrev hbmTy (i : Nat) : BufTy := match i / 128 with
  | 0 => hbmTy0_0 i
  | 1 => hbmTy0_1 i
  | _ => ⟨S16x256x2048, .f32⟩

abbrev bufTy : (tb : Table) → Fin (tcTables nBuf tb) → BufTy
  | .hbm, ⟨i, _⟩ => hbmTy i
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call1_v0 : Ref sig .tc := ⟨.hbm, 31, rfl⟩
abbrev main_call1_v1 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_cst : Ref sig .tc := ⟨.hbm, 72, rfl⟩
abbrev main_call2_v14 : Ref sig .tc := ⟨.hbm, 73, rfl⟩
abbrev main_v39 : Ref sig .tc := ⟨.hbm, 74, rfl⟩
abbrev main_c_5 : Ref sig .tc := ⟨.hbm, 75, rfl⟩
abbrev main_v40 : Ref sig .tc := ⟨.hbm, 76, rfl⟩
abbrev main_v41 : Ref sig .tc := ⟨.hbm, 77, rfl⟩
abbrev main_c_6 : Ref sig .tc := ⟨.hbm, 78, rfl⟩
abbrev main_v42 : Ref sig .tc := ⟨.hbm, 79, rfl⟩
abbrev main_v43 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_cst : Ref sig .tc := ⟨.hbm, 100, rfl⟩
abbrev main_call3_v14 : Ref sig .tc := ⟨.hbm, 101, rfl⟩
abbrev main_v44 : Ref sig .tc := ⟨.hbm, 102, rfl⟩
abbrev main_cst_7 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_cst_8 : Ref sig .tc := ⟨.hbm, 109, rfl⟩
abbrev main_v50 : Ref sig .tc := ⟨.hbm, 110, rfl⟩
abbrev main_v51 : Ref sig .tc := ⟨.hbm, 111, rfl⟩
abbrev main_cst_9 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_call4_v0 : Ref sig .tc := ⟨.hbm, 116, rfl⟩
abbrev main_call4_v1_0 : Ref sig .tc := ⟨.hbm, 117, rfl⟩
abbrev main_v55 : Ref sig .tc := ⟨.hbm, 118, rfl⟩
abbrev main_v56 : Ref sig .tc := ⟨.hbm, 119, rfl⟩
abbrev main_call6_c : Ref sig .tc := ⟨.hbm, 120, rfl⟩
abbrev main_call6_v0 : Ref sig .tc := ⟨.hbm, 121, rfl⟩
abbrev main_call6_v1 : Ref sig .tc := ⟨.hbm, 122, rfl⟩
abbrev main_call6_c_0 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_call6_v5 : Ref sig .tc := ⟨.hbm, 127, rfl⟩
abbrev main_call6_c_1 : Ref sig .tc := ⟨.hbm, 128, rfl⟩
abbrev main_call6_c_2 : Ref sig .tc := ⟨.hbm, 129, rfl⟩
abbrev main_call6_v6 : Ref sig .tc := ⟨.hbm, 130, rfl⟩
abbrev main_call6_v7 : Ref sig .tc := ⟨.hbm, 131, rfl⟩
abbrev main_call6_v8 : Ref sig .tc := ⟨.hbm, 132, rfl⟩
abbrev main_call6_v9 : Ref sig .tc := ⟨.hbm, 133, rfl⟩
abbrev main_call6_v10 : Ref sig .tc := ⟨.hbm, 134, rfl⟩
abbrev main_call6_v11 : Ref sig .tc := ⟨.hbm, 135, rfl⟩
abbrev main_call6_c_3 : Ref sig .tc := ⟨.hbm, 136, rfl⟩
abbrev main_call6_v12 : Ref sig .tc := ⟨.hbm, 137, rfl⟩
abbrev main_call6_v13 : Ref sig .tc := ⟨.hbm, 138, rfl⟩
abbrev main_call6_cst : Ref sig .tc := ⟨.hbm, 139, rfl⟩
abbrev main_call6_v14 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_cst_10 : Ref sig .tc := ⟨.hbm, 144, rfl⟩
abbrev main_v60 : Ref sig .tc := ⟨.hbm, 145, rfl⟩

abbrev nD : Nat := 1
abbrev τ : Topo := Topo.v7x

variable {F : FTy → Type} [FloatOps F]
-- ==== Proof.Stages.lean ====
/-
  The sorting network of the block, as the program prints it: a mask of the positions with a given bit clear, the
  row rolled by `j` places either way, the two chosen between by the mask, the comparison of the (value, index)
  pairs, and one compare-and-exchange stage; the network is the fold of the 66 stages.  Then the rest of the
  block: the positions' coordinates, the mask of the valid ones, the values the network starts from, the
  interpolated weight and the pooled sum.
-/
module

public import proofs.«01_k».proof.Proof.Gen.KernelIdeal.Frame

@[expose] public section

set_option maxRecDepth 16384

noncomputable section

namespace Cert.KernelIdeal.Own

open Idealize.ShloMosaic Idealize.ShloMosaic.TcCoe Idealize.ShloMosaic.Tactic
open Cert.KernelIdeal.Gen

variable {F : FTy → Type} [FloatOps F]

/-! ## A row rolled by `j` places -/

/-- The shape of `n` columns of the block. -/
abbrev Cols (n : Nat) : Shape := ⟨2, ![32, n]⟩

/-- `n` columns starting at column `o` lie inside the block when `o + n ≤ 2048`. -/
theorem slices_cols {o n : Nat} (h : o + n ≤ 2048) : S32x2048.Slices ![0, o] (Cols n) := by
  refine ⟨rfl, fun a => ?_⟩
  fin_cases a
  · exact Nat.le_refl 32
  · exact h

/-- Two pieces whose widths add to 2048 make the block. -/
theorem concat_cols {n n' : Nat} (h : n + n' = 2048) : Shape.Concatenates [Cols n, Cols n'] S32x2048 1 := by
  refine ⟨Nat.le_refl 2, ?_, ?_⟩
  · intro s hs
    rcases List.mem_pair.1 hs with rfl | rfl <;> refine ⟨rfl, fun b hb => ?_⟩ <;> fin_cases b <;>
      first | rfl | exact absurd rfl hb
  · show n + (n' + 0) = 2048
    omega

/-- The row rolled left: column `c` shows column `c + j`, around. -/
def rollL {α : Type} (j : Nat) (hj : j ≤ 2048) (v : S32x2048.Idx → α) : S32x2048.Idx → α :=
  concatenate S32x2048 1
    [⟨Cols (2048 - j), extractStridedSlice (Cols (2048 - j)) ![0, j] v (slices_cols (by omega))⟩,
      ⟨Cols j, extractStridedSlice (Cols j) ![0, 0] v (slices_cols (by omega))⟩] (concat_cols (by omega))

/-- The row rolled right: column `c` shows column `c - j`, around. -/
def rollR {α : Type} (j : Nat) (hj : j ≤ 2048) (v : S32x2048.Idx → α) : S32x2048.Idx → α :=
  concatenate S32x2048 1
    [⟨Cols j, extractStridedSlice (Cols j) ![0, 2048 - j] v (slices_cols (by omega))⟩,
      ⟨Cols (2048 - j), extractStridedSlice (Cols (2048 - j)) ![0, 0] v (slices_cols (by omega))⟩]
    (concat_cols (by omega))

/-! ## The masks and one stage -/

/-- The positions. -/
def lane : IVec S1x2048 32 := iota .tc S1x2048 32 [1] iota_S1x2048_d1_w32

/-- The mask of the positions whose bits in `d` are clear. -/
def lowMask (d : Nat) : IVec S1x2048 1 :=
  cmpi .eq (andi lane (broadcast S1x2048 (BitVec.ofNat 32 d))) (broadcast S1x2048 0#32)

/-- A mask of positions, for every row. -/
def maskRows (q : IVec S1x2048 1) : IVec S32x2048 1 :=
  broadcastTo S32x2048 (shapeCast S1x2048 q shapeCasts_S1x2048_S1x2048) broadcasts_S1x2048_S32x2048

/-- What the partner of each position holds: `j` to the right where the bit `j` is clear, `j` to the left elsewhere. -/
def partnerOf {α : Type} (j : Nat) (hj : j ≤ 2048) (v : S32x2048.Idx → α) : S32x2048.Idx → α :=
  select (maskRows (lowMask j)) (rollL j hj v) (rollR j hj v)

/-- The state of the network: the values and the indices they came from. -/
abbrev State (F : FTy → Type) : Type := FVec F S32x2048 .f32 × IVec S32x2048 32

/-- Where a position keeps its own pair, in the stage of block size `k` and distance `j`. -/
def keepMask (k j : Nat) (v pv : FVec F S32x2048 .f32) (idx pi : IVec S32x2048 32) : IVec S32x2048 1 :=
  xori
    (xori
      (broadcastTo S32x2048
        (broadcastTo S32x2048 (xori (xori (lowMask k) (lowMask j)) (constantI S1x2048 1 1#1)) broadcasts_S1x2048_S32x2048)
        broadcasts_S32x2048_S32x2048)
      (ori (cmpf .ogt v pv) (andi (cmpf .oeq v pv) (cmpi .sgt idx pi))))
    (constantI S32x2048 1 1#1)

/-- One stage: each position keeps its pair or takes its partner's. -/
def stageOf (k j : Nat) (hj : j ≤ 2048) (x : State F) : State F :=
  (select (keepMask k j x.1 (partnerOf j hj x.1) x.2 (partnerOf j hj x.2)) x.1 (partnerOf j hj x.1),
    select (keepMask k j x.1 (partnerOf j hj x.1) x.2 (partnerOf j hj x.2)) x.2 (partnerOf j hj x.2))

/-- The distances are at most the width. -/
theorem dist_le (s : Fin 11) : 2 ^ s.val ≤ 2048 := by
  have h : 2 ^ s.val ≤ 2 ^ 11 := Nat.pow_le_pow_right (by omega) (by omega)
  exact h

/-- The stages in order: for each level, the distances from the largest down. -/
def schedule : List (Fin 11 × Fin 11) :=
  (List.finRange 11).flatMap fun l => ((List.finRange 11).filter fun s => decide (s ≤ l)).reverse.map fun s => (l, s)

/-- The network: its stages one after the other. -/
def networkOf (x : State F) : State F :=
  schedule.foldl (fun x ls => stageOf (2 ^ (ls.1.val + 1)) (2 ^ ls.2.val) (dist_le ls.2) x) x

/-! ## The rest of the block -/

/-- The coordinate of each position, for a row of the given size. -/
def coordOf (size : BitVec 32) : FVec F S1x2048 .f32 :=
  Scalar.select (Scalar.cmpi .eq size 1#32)
    (addf (sitofp .f32 lane)
      (broadcast S1x2048 (Scalar.divf (Scalar.ofBits .f32 0x3F800000#32)
        (Scalar.sitofp .f32 (Scalar.maxsi (Scalar.subi size 1#32) 1#32)))))
    (divf (sitofp .f32 lane)
      (broadcast S1x2048 (Scalar.sitofp .f32 (Scalar.maxsi (Scalar.subi size 1#32) 1#32))))

/-- The valid positions: coordinate at most 1. -/
def validOf (size : BitVec 32) : IVec S1x2048 1 :=
  cmpf .ole (coordOf (F := F) size) (broadcast S1x2048 (Scalar.ofBits .f32 0x3F800000#32))

/-- The place of each position on the scale of the pieces. -/
def placeOf (size : BitVec 32) : FVec F S1x2048 .f32 :=
  mulf (broadcast S1x2048 (Scalar.ofBits .f32 0x41A00000#32))
    (minimumf (coordOf size) (broadcast S1x2048 (Scalar.ofBits .f32 0x3F800000#32)))

/-- The values the network starts from: the block, the invalid positions pushed down. -/
def startOf (size : BitVec 32) (x : Vec F S1x32x2048 .f32) : FVec F S32x2048 .f32 :=
  addf (shapeCast S32x2048 x shapeCasts_S1x32x2048_S32x2048)
    (broadcastTo S32x2048
      (select (validOf (F := F) size) (broadcast S1x2048 (Scalar.ofBits .f32 0x00000000#32))
        (broadcast S1x2048 (Scalar.ofBits .f32 0xC7C34F80#32)))
      broadcasts_S1x2048_S32x2048)

/-- The sorted pairs of the block. -/
def sortedOf (size : BitVec 32) (x : Vec F S1x32x2048 .f32) : State F :=
  networkOf (startOf size x, iota .tc S32x2048 32 [1] iota_S32x2048_d1_w32)

/-- The permutation the block stores. -/
def permOf (size : BitVec 32) (x : Vec F S1x32x2048 .f32) : IVec S1x32x2048 32 :=
  shapeCast S1x32x2048 (sortedOf size x).2 shapeCasts_S32x2048_S1x32x2048

/-- Piece `p`'s share of the interpolated weight: the hat function at `p` times the weight's column `p`. -/
def hatTerm (size : BitVec 32) (bits : BitVec 32) (col : Vec F S32x1 .f32) : FVec F S32x2048 .f32 :=
  mulf (broadcastTo S32x2048 col broadcasts_S32x1_S32x2048)
    (broadcastTo S32x2048
      (maximumf
        (subf (broadcast S1x2048 (Scalar.ofBits .f32 0x3F800000#32))
          (absf (subf (placeOf size) (broadcast S1x2048 (Scalar.ofBits .f32 bits)))))
        (broadcast S1x2048 (Scalar.ofBits .f32 0x00000000#32)))
      broadcasts_S1x2048_S32x2048)

/-- The places of the hat functions, as the words the program spells them with. -/
def hatBits : List (BitVec 32) :=
  [0x00000000#32, 0x3F800000#32, 0x40000000#32, 0x40400000#32, 0x40800000#32, 0x40A00000#32, 0x40C00000#32,
    0x40E00000#32, 0x41000000#32, 0x41100000#32, 0x41200000#32, 0x41300000#32, 0x41400000#32, 0x41500000#32,
    0x41600000#32, 0x41700000#32, 0x41800000#32, 0x41880000#32, 0x41900000#32, 0x41980000#32, 0x41A00000#32]

/-- Column `p` of the weights lies inside them. -/
theorem inb_col (p : Fin 21) : ∀ a, (![0, p.val] : Fin 2 → Nat) a + S32x1.size a ≤ S32x21.size a := by
  intro a
  fin_cases a
  · exact Nat.le_refl 32
  · exact p.isLt

/-- The interpolated weight: the pieces' shares summed from the first to the last. -/
def weightOf (size : BitVec 32) (col : Fin 21 → Vec F S32x1 .f32) : FVec F S32x2048 .f32 :=
  (List.finRange 21).foldl (fun acc p => addf acc (hatTerm size (hatBits.getD p.val 0#32) (col p)))
    (broadcast S32x2048 (Scalar.ofBits .f32 0x00000000#32))

/-- The pooled sums the block stores. -/
def pooledOf (size : BitVec 32) (x : Vec F S1x32x2048 .f32) (col : Fin 21 → Vec F S32x1 .f32) : FVec F S1x32x1 .f32 :=
  shapeCast S1x32x1
    (shapeCast S32x1
      (multiReduction .add [1] S32
        (mulf
          (mulf (sortedOf size x).1
            (broadcastTo S32x2048 (sitofp .f32 (extui 32 (validOf (F := F) size) natLt_1_32)) broadcasts_S1x2048_S32x2048))
          (weightOf size col))
        0x00000000#32 reduces_S32x2048_S32 (.inl rfl) rfl)
      shapeCasts_S32_S32x1)
    shapeCasts_S32x1_S1x32x1

end Cert.KernelIdeal.Own

end
-- ==== Proof.Block.lean ====
/-
  What one grid step leaves in its two result buffers: the permutation of the sorted block and its pooled sums, as
  functions of the step's block of the input, its block of the weights and the row size it reads from the table.
-/
module

public import proofs.«01_k».proof.Proof.Stages
public import Idealize.ShloMosaic.Lib.VecWindow

@[expose] public section

set_option maxRecDepth 16384

noncomputable section

namespace Cert.KernelIdeal.Own

open Idealize.ShloMosaic Idealize.ShloMosaic.TcCoe Idealize.ShloMosaic.Tactic
open Cert.KernelIdeal.Gen

variable {F : FTy → Type} [FloatOps F]

/-- The row size a step reads: the table's entry at the step's first coordinate. -/
def sizeAt (i : grid0.Coords) (tb : IVec S16 32) : BitVec 32 :=
  tb fun a => match a with | ⟨0, _⟩ => ⟨(i 0).val, (i 0).isLt⟩

/-- Column `p` of a block of weights. -/
def colOf (x1 : Vec F S32x21 .f32) (p : Fin 21) : Vec F S32x1 .f32 :=
  fun y => x1 fun a => match a with | ⟨0, _⟩ => y 0 | ⟨1, _⟩ => p

section

variable (c : Dev nD) (i : grid0.Coords)
  (arg3 : Memref sig .tc .vmem S1x32x2048 .f32) (harg3 : arg3.IsWhole)
  (arg4 : Memref sig .tc .vmem S32x21 .f32) (harg4 : arg4.IsWhole)
  (arg5 : Memref sig .tc .vmem S1x32x1 .f32) (harg5 : arg5.IsWhole)
  (arg6 : Memref sig .tc .vmem S1x32x2048 .i32) (harg6 : arg6.IsWhole)
  (x0 : Vec F S1x32x2048 .f32) (x1 : Vec F S32x21 .f32) (xt0 : TbBuf0 (F := F) c tbM0_0)

/-- The step stores the permutation once, over its whole buffer. -/
theorem perm_piece :
    (kernelRun0_A c i arg3 harg3 arg4 harg4 arg5 harg5 arg6 harg6 x0 x1 xt0).2.1
      = [⟨Rect.unit ![0, 0, 0] S1x32x2048.size inb_S1x32x2048_S1x32x2048_0_0_0,
          permOf (F := F)
            (kernelRun0_A.sl.r c i xt0)
            (View.readAt (Elt F) arg3.view
              (Rect.unit ![0, 0, 0] S1x32x2048.size inb_S1x32x2048_S1x32x2048_0_0_0).toLoadRect (harg3.unread x0))⟩] := by
  sl_kernel_rfl

/-- The step stores the pooled sums once, over their whole buffer. -/
theorem pooled_piece :
    (kernelRun0_A c i arg3 harg3 arg4 harg4 arg5 harg5 arg6 harg6 x0 x1 xt0).1
      = [⟨Rect.unit ![0, 0, 0] S1x32x1.size inb_S1x32x1_S1x32x1_0_0_0,
          pooledOf (F := F)
            (kernelRun0_A.sl.r c i xt0)
            (View.readAt (Elt F) arg3.view
              (Rect.unit ![0, 0, 0] S1x32x2048.size inb_S1x32x2048_S1x32x2048_0_0_0).toLoadRect (harg3.unread x0))
            (fun p => View.readAt (Elt F) arg4.view
              (Rect.unit (s := S32x21) ![0, p.val] S32x1.size (inb_col p)).toLoadRect (harg4.unread x1))⟩] := by
  sl_kernel_rfl

/-- The load of the row size reads the entry at the step's first coordinate. -/
theorem table_load :
    kernelRun0_A.sl.r c i xt0 = sizeAt i xt0 := by
  refine congrArg (xt0 : IVec S16 32) (funext fun a => Fin.ext ?_)
  fin_cases a
  have h : (i 0).val < 16 := (i 0).isLt
  show (BitVec.ofNat 32 (i 0).val).toNat + 1 * 0 = (i 0).val
  rw [BitVec.toNat_ofNat, Nat.mod_eq_of_lt (by omega)]
  omega

/-- The load of a column of the weights reads that column. -/
theorem column_load (p : Fin 21) :
    View.readAt (Elt F) arg4.view (Rect.unit (s := S32x21) ![0, p.val] S32x1.size (inb_col p)).toLoadRect (harg4.unread x1)
      = colOf x1 p := by
  show (fun y => arg4.view.read (Elt F) (harg4.unread x1) _) = _
  rw [harg4.read_unread]
  funext y
  refine congrArg x1 (funext fun a => Fin.ext ?_)
  have h1 : (y 1).val < 1 := (y 1).isLt
  match a with
  | ⟨0, _⟩ => show 0 + 1 * (y 0).val = (y 0).val; omega
  | ⟨1, _⟩ => show p.val + 1 * (y 1).val = p.val; omega

/-- The load of the step's block of the input reads the whole block. -/
theorem block_load :
    View.readAt (Elt F) arg3.view
      (Rect.unit ![0, 0, 0] S1x32x2048.size inb_S1x32x2048_S1x32x2048_0_0_0).toLoadRect (harg3.unread x0) = x0 :=
  (View.readAt_full arg3.view (harg3.unread x0) inb_S1x32x2048_S1x32x2048_0_0_0).trans (harg3.read_unread x0)

/-- The permutation a step leaves in its buffer. -/
theorem out_perm :
    out0_A_3 c i arg3 harg3 arg4 harg4 arg5 harg5 arg6 harg6 x0 x1 xt0 = permOf (F := F) (sizeAt i xt0) x0 := by
  refine (congrArg (fun L => VO0_3.read (Elt F) (VO0_3.writes (Elt F) VO0_3.junk L))
    (perm_piece c i arg3 harg3 arg4 harg4 arg5 harg5 arg6 harg6 x0 x1 xt0)).trans
    ((View.read_writes_full VO0_3 _ _ _ _).trans ?_)
  exact congrArg₂ (permOf (F := F)) (table_load c i xt0) (block_load arg3 harg3 x0)

/-- The pooled sums a step leaves in their buffer. -/
theorem out_pooled :
    out0_A_2 c i arg3 harg3 arg4 harg4 arg5 harg5 arg6 harg6 x0 x1 xt0
      = pooledOf (F := F) (sizeAt i xt0) x0 (colOf x1) := by
  refine (congrArg (fun L => VO0_2.read (Elt F) (VO0_2.writes (Elt F) VO0_2.junk L))
    (pooled_piece c i arg3 harg3 arg4 harg4 arg5 harg5 arg6 harg6 x0 x1 xt0)).trans
    ((View.read_writes_full VO0_2 _ _ _ _).trans ?_)
  have hcol : (fun p : Fin 21 => View.readAt (Elt F) arg4.view
      (Rect.unit (s := S32x21) ![0, p.val] S32x1.size (inb_col p)).toLoadRect (harg4.unread x1)) = colOf x1 :=
    funext fun p => column_load arg4 harg4 x1 p
  exact congr (congrArg₂ (pooledOf (F := F)) (table_load c i xt0) (block_load arg3 harg3 x0)) hcol

end

end Cert.KernelIdeal.Own

end
-- ==== Proof.Arrays.lean ====
/-
  What the two result arrays of the kernel hold after the grid: at every row, the permutation and the pooled sum that
  one block computes from its part of the input, of the weights and of the row sizes.
-/
module

public import proofs.«01_k».proof.Proof.Block
public import Idealize.ShloMosaic.Lib.ValueIdx
public import Idealize.ShloMosaic.Lib.ValueIdxCoords
public import Idealize.ShloMosaic.Lib.Pipeline.Value

@[expose] public section

set_option maxRecDepth 16384

noncomputable section

namespace Cert.KernelIdeal.Own

open Idealize.ShloMosaic Idealize.ShloMosaic.TcCoe Idealize.ShloMosaic.Tactic
open Idealize.SL.Sem
open Idealize.ShloMosaic.ValueIdx
open Cert.KernelIdeal.Gen

variable {F : FTy → Type} [FloatOps F]

/-! ## The arrays as functions of the arguments -/

/-- Row `r` of group `g` of 32 channels is one of the 256 channels. -/
theorem chan_lt (g : Fin 8) (r : Fin 32) : 32 * g.val + r.val < 256 := by omega

/-- The channel that is row `r` of group `g`. -/
def chan (g : Fin 8) (r : Fin 32) : Fin 256 := ⟨32 * g.val + r.val, chan_lt g r⟩

/-- The group of a channel, -/
def grp (k : Fin 256) : Fin 8 := ⟨k.val / 32, by omega⟩
/-- and its row in the group. -/
def rowIn (k : Fin 256) : Fin 32 := ⟨k.val % 32, by omega⟩

theorem chan_grp (k : Fin 256) : chan (grp k) (rowIn k) = k := Fin.ext (by simp only [chan, grp, rowIn]; omega)

theorem grp_chan (g : Fin 8) (r : Fin 32) : grp (chan g r) = g := Fin.ext (by simp only [chan, grp]; omega)

theorem rowIn_chan (g : Fin 8) (r : Fin 32) : rowIn (chan g r) = r := Fin.ext (by simp only [chan, rowIn]; omega)

/-- The block of the input a step reads. -/
def blockAt (x : Vec F S16x256x2048 .f32) (b : Fin 16) (g : Fin 8) : Vec F S1x32x2048 .f32 :=
  fun y => x (ix3 b (chan g (y 1)) (y 2))

/-- The block of the weights a step reads. -/
def wblockAt (w : Vec F S256x21 .f32) (g : Fin 8) : Vec F S32x21 .f32 := fun y => w (ix2 (chan g (y 0)) (y 1))

/-- The permutation array. -/
def permArr (x : Vec F S16x256x2048 .f32) (s : IVec S16 32) : IVec S16x256x2048 32 :=
  fun i => permOf (F := F) (s (ix1 (i 0))) (blockAt x (i 0) (grp (i 1))) (ix3 0 (rowIn (i 1)) (i 2))

/-- The array of pooled sums, with its trailing axis of one. -/
def pooledArr (x : Vec F S16x256x2048 .f32) (s : IVec S16 32) (w : Vec F S256x21 .f32) : FVec F S16x256x1 .f32 :=
  fun i => pooledOf (F := F) (s (ix1 (i 0))) (blockAt x (i 0) (grp (i 1))) (colOf (wblockAt w (grp (i 1))))
    (ix3 0 (rowIn (i 1)) 0)

/-! ## The grid's steps -/

/-- The coordinates of a step. -/
theorem coords_val : ∀ t : Fin grid0.N, (grid0.coords t 0).val = t.val / 8 ∧ (grid0.coords t 1).val = t.val % 8 := by
  decide +kernel

/-- The blocks a step reads and writes. -/
theorem index_val : ∀ t : Fin grid0.N, cc0_transform_0 (grid0.coords t) = ![t.val / 8, t.val % 8, 0]
    ∧ cc0_transform_1 (grid0.coords t) = ![t.val % 8, 0]
    ∧ cc0_transform_2 (grid0.coords t) = ![t.val / 8, t.val % 8, 0]
    ∧ cc0_transform_3 (grid0.coords t) = ![t.val / 8, t.val % 8, 0] := by
  decide +kernel

variable (m : (ℓ : Loc nD τ sig) → Buf (Elt F) ℓ) (ρ : Dev nD → PrngReg)

/-- The launch asks nothing of the row sizes. -/
theorem ok : Ok m := trivial

/-- There are 128 steps. -/
theorem step_lt (t : Fin (cfgM m (ok m)).N) : t.val < 128 := N_0 ▸ t.isLt

/-- The first coordinate of a step, -/
def stepB (t : Fin (cfgM m (ok m)).N) : Fin 16 := ⟨t.val / 8, by have := step_lt m t; omega⟩
/-- and the second. -/
def stepG (t : Fin (cfgM m (ok m)).N) : Fin 8 := ⟨t.val % 8, by omega⟩

/-- The step's block of the input. -/
theorem iblk_x (c : Dev nD) (t : Fin (cfgM m (ok m)).N) :
    iblk m (ok m) c 0 t = blockAt (m ((c.tc : Thread nD τ).loc main_arg0)) (stepB m t) (stepG m t) := by
  refine funext fun (y : S1x32x2048.Idx) => ?_
  refine congrArg (m ((c.tc : Thread nD τ).loc main_arg0) : Vec F S16x256x2048 .f32) (funext fun a => Fin.ext ?_)
  have h0 : (y 0).val < 1 := (y 0).isLt
  have e := (index_val t).1
  match a with
  | ⟨0, _⟩ =>
    show cc0_transform_0 (grid0.coords t) 0 * 1 + 1 * (y 0).val = t.val / 8
    rw [e]
    show t.val / 8 * 1 + 1 * (y 0).val = t.val / 8
    omega
  | ⟨1, _⟩ =>
    show cc0_transform_0 (grid0.coords t) 1 * 32 + 1 * (y 1).val = 32 * (t.val % 8) + (y 1).val
    rw [e]
    show t.val % 8 * 32 + 1 * (y 1).val = 32 * (t.val % 8) + (y 1).val
    omega
  | ⟨2, _⟩ =>
    show cc0_transform_0 (grid0.coords t) 2 * 2048 + 1 * (y 2).val = (y 2).val
    rw [e]
    show 0 * 2048 + 1 * (y 2).val = (y 2).val
    omega

/-- The step's block of the weights. -/
theorem iblk_w (c : Dev nD) (t : Fin (cfgM m (ok m)).N) :
    iblk m (ok m) c 1 t = wblockAt (m ((c.tc : Thread nD τ).loc main_arg2)) (stepG m t) := by
  refine funext fun (y : S32x21.Idx) => ?_
  refine congrArg (m ((c.tc : Thread nD τ).loc main_arg2) : Vec F S256x21 .f32) (funext fun a => Fin.ext ?_)
  have e := (index_val t).2.1
  match a with
  | ⟨0, _⟩ =>
    show cc0_transform_1 (grid0.coords t) 0 * 32 + 1 * (y 0).val = 32 * (t.val % 8) + (y 0).val
    rw [e]
    show t.val % 8 * 32 + 1 * (y 0).val = 32 * (t.val % 8) + (y 0).val
    omega
  | ⟨1, _⟩ =>
    show cc0_transform_1 (grid0.coords t) 1 * 21 + 1 * (y 1).val = (y 1).val
    rw [e]
    show 0 * 21 + 1 * (y 1).val = (y 1).val
    omega

/-- The row size a step reads. -/
theorem size_step (c : Dev nD) (t : Fin (cfgM m (ok m)).N) :
    sizeAt (grid0.coords t) (tbl m 0) = (m ((c.tc : Thread nD τ).loc main_arg1) : IVec S16 32) (ix1 (stepB m t)) := by
  obtain rfl : c = 0 := Subsingleton.elim _ _
  refine congrArg (m (((0 : Dev nD).tc : Thread nD τ).loc main_arg1) : IVec S16 32) (funext fun a => Fin.ext ?_)
  match a with
  | ⟨0, _⟩ => exact (coords_val t).1

/-- Every row of a result is written by one of the steps. -/
theorem step_of (b : Fin 16) (k : Fin 256) : b.val * 8 + k.val / 32 < (cfgM m (ok m)).N := by
  have hN : (cfgM m (ok m)).N = 128 := N_0
  omega

/-- The step that writes row (`b`, `k`). -/
def stepOf (b : Fin 16) (k : Fin 256) : Fin (cfgM m (ok m)).N := ⟨b.val * 8 + k.val / 32, step_of m b k⟩

/-- What a step leaves in the permutation's block. -/
theorem step_perm (c : Dev nD) (t : Fin (cfgM m (ok m)).N) :
    (outsAt0 m (ok m) c t).2
      = permOf (F := F) ((m ((c.tc : Thread nD τ).loc main_arg1) : IVec S16 32) (ix1 (stepB m t)))
          (blockAt (m ((c.tc : Thread nD τ).loc main_arg0)) (stepB m t) (stepG m t)) := by
  dsimp only [outsAt0]
  refine (out_perm (F := F) c (grid0.coords t) _ _ _ _ _ _ _ _ _ _ _).trans ?_
  rw [size_step m c t, iblk_x m c t]

/-- What a step leaves in the pooled sums' block. -/
theorem step_pooled (c : Dev nD) (t : Fin (cfgM m (ok m)).N) :
    (outsAt0 m (ok m) c t).1
      = pooledOf (F := F) ((m ((c.tc : Thread nD τ).loc main_arg1) : IVec S16 32) (ix1 (stepB m t)))
          (blockAt (m ((c.tc : Thread nD τ).loc main_arg0)) (stepB m t) (stepG m t))
          (colOf (wblockAt (m ((c.tc : Thread nD τ).loc main_arg2)) (stepG m t))) := by
  dsimp only [outsAt0]
  refine (out_pooled (F := F) c (grid0.coords t) _ _ _ _ _ _ _ _ _ _ _).trans ?_
  rw [size_step m c t, iblk_x m c t, iblk_w m c t]

/-- Where a step's block of the permutation lies. -/
theorem emb_perm (t : Fin (cfgM m (ok m)).N) (r : Fin 32) (q : Fin 2048) :
    (((cfgM m (ok m)).win 3).blk t).view.emb (ix3 (0 : Fin 1) r q) = ix3 (stepB m t) (chan (stepG m t) r) q := by
  refine funext fun a => Fin.ext ?_
  have e := (index_val t).2.2.2
  match a with
  | ⟨0, _⟩ =>
    show cc0_transform_3 (grid0.coords t) 0 * 1 + 1 * 0 = t.val / 8
    rw [e]
    show t.val / 8 * 1 + 1 * 0 = t.val / 8
    omega
  | ⟨1, _⟩ =>
    show cc0_transform_3 (grid0.coords t) 1 * 32 + 1 * r.val = 32 * (t.val % 8) + r.val
    rw [e]
    show t.val % 8 * 32 + 1 * r.val = 32 * (t.val % 8) + r.val
    omega
  | ⟨2, _⟩ =>
    show cc0_transform_3 (grid0.coords t) 2 * 2048 + 1 * q.val = q.val
    rw [e]
    show 0 * 2048 + 1 * q.val = q.val
    omega

/-- Where a step's block of the pooled sums lies. -/
theorem emb_pooled (t : Fin (cfgM m (ok m)).N) (r : Fin 32) (q : Fin 1) :
    (((cfgM m (ok m)).win 2).blk t).view.emb (ix3 (0 : Fin 1) r q) = ix3 (stepB m t) (chan (stepG m t) r) q := by
  refine funext fun a => Fin.ext ?_
  have e := (index_val t).2.2.1
  match a with
  | ⟨0, _⟩ =>
    show cc0_transform_2 (grid0.coords t) 0 * 1 + 1 * 0 = t.val / 8
    rw [e]
    show t.val / 8 * 1 + 1 * 0 = t.val / 8
    omega
  | ⟨1, _⟩ =>
    show cc0_transform_2 (grid0.coords t) 1 * 32 + 1 * r.val = 32 * (t.val % 8) + r.val
    rw [e]
    show t.val % 8 * 32 + 1 * r.val = 32 * (t.val % 8) + r.val
    omega
  | ⟨2, _⟩ =>
    show cc0_transform_2 (grid0.coords t) 2 * 1 + 1 * q.val = q.val
    rw [e]
    show 0 * 1 + 1 * q.val = q.val
    omega

/-- The step that writes a row has the row's coordinates. -/
theorem stepB_stepOf (b : Fin 16) (k : Fin 256) : stepB m (stepOf m b k) = b :=
  Fin.ext (show (b.val * 8 + k.val / 32) / 8 = b.val by omega)

theorem stepG_stepOf (b : Fin 16) (k : Fin 256) : stepG m (stepOf m b k) = grp k :=
  Fin.ext (show (b.val * 8 + k.val / 32) % 8 = k.val / 32 by omega)

/-- A block's index has zero in front. -/
theorem exists_ix3_perm (y : S1x32x2048.Idx) : ∃ (r : Fin 32) (q : Fin 2048), y = ix3 0 r q :=
  ⟨y 1, y 2, (eq_ix3 y).trans (congrArg (fun z : Fin 1 => ix3 z (y 1) (y 2)) (Subsingleton.elim (α := Fin 1) _ _))⟩

/-- A block's index has zero in front, and behind. -/
theorem exists_ix3_pooled (y : S1x32x1.Idx) : ∃ r : Fin 32, y = ix3 0 r 0 :=
  ⟨y 1, (eq_ix3 y).trans (congrArg₂ (fun z w : Fin 1 => ix3 z (y 1) w) (Subsingleton.elim (α := Fin 1) _ _)
    (Subsingleton.elim (α := Fin 1) _ _))⟩

/-- The permutation array at a block's index is the block's own value. -/
theorem permArr_emb (x : Vec F S16x256x2048 .f32) (s : IVec S16 32) (b : Fin 16) (g : Fin 8) (r : Fin 32)
    (q : Fin 2048) :
    permArr x s (ix3 b (chan g r) q) = permOf (F := F) (s (ix1 b)) (blockAt x b g) (ix3 0 r q) := by
  show permOf (F := F) (s (ix1 b)) (blockAt x b (grp (chan g r))) (ix3 0 (rowIn (chan g r)) q) = _
  rw [grp_chan, rowIn_chan]

/-- The array of pooled sums at a block's index is the block's own value. -/
theorem pooledArr_emb (x : Vec F S16x256x2048 .f32) (s : IVec S16 32) (w : Vec F S256x21 .f32) (b : Fin 16)
    (g : Fin 8) (r : Fin 32) (q : Fin 1) :
    pooledArr x s w (ix3 b (chan g r) q)
      = pooledOf (F := F) (s (ix1 b)) (blockAt x b g) (colOf (wblockAt w g)) (ix3 0 r 0) := by
  show pooledOf (F := F) (s (ix1 b)) (blockAt x b (grp (chan g r))) (colOf (wblockAt w (grp (chan g r))))
    (ix3 0 (rowIn (chan g r)) 0) = _
  rw [grp_chan, rowIn_chan]

/-- Every index of the permutation array is in a step's block. -/
theorem mem_perm (b : Fin 16) (k : Fin 256) (q : Fin 2048) :
    (ix3 b k q : S16x256x2048.Idx) ∈ (((cfgM m (ok m)).win 3).blk (stepOf m b k)).view.set := by
  have e : (((cfgM m (ok m)).win 3).blk (stepOf m b k)).view.emb (ix3 (0 : Fin 1) (rowIn k) q) = ix3 b k q := by
    refine (emb_perm m _ _ _).trans ?_
    rw [stepB_stepOf, stepG_stepOf, chan_grp]
  have h := View.emb_mem_set (((cfgM m (ok m)).win 3).blk (stepOf m b k)).view (ix3 (0 : Fin 1) (rowIn k) q)
  rw [e] at h
  exact h

/-- Every index of the array of pooled sums is in a step's block. -/
theorem mem_pooled (b : Fin 16) (k : Fin 256) (q : Fin 1) :
    (ix3 b k q : S16x256x1.Idx) ∈ (((cfgM m (ok m)).win 2).blk (stepOf m b k)).view.set := by
  have e : (((cfgM m (ok m)).win 2).blk (stepOf m b k)).view.emb (ix3 (0 : Fin 1) (rowIn k) q) = ix3 b k q := by
    refine (emb_pooled m _ _ _).trans ?_
    rw [stepB_stepOf, stepG_stepOf, chan_grp]
  have h := View.emb_mem_set (((cfgM m (ok m)).win 2).blk (stepOf m b k)).view (ix3 (0 : Fin 1) (rowIn k) q)
  rw [e] at h
  exact h

/-- The permutation array after the grid. -/
theorem final_perm (c : Dev nD) :
    (dats m (ok m) 0 c).arrAt 3 (cfgM m (ok m)).N
      = permArr (m ((c.tc : Thread nD τ).loc main_arg0)) (m ((c.tc : Thread nD τ).loc main_arg1)) := by
  refine (dats m (ok m) 0 c).arrAt_eq_of_cover 3 _ (fun t _ => ?_) fun (i : S16x256x2048.Idx) => ?_
  · refine funext fun (y : S1x32x2048.Idx) => ?_
    obtain ⟨r, q, rfl⟩ := exists_ix3_perm y
    refine (congrFun ((after0_3 m (ok m) c t).trans (step_perm m c t)) _).trans ?_
    exact (permArr_emb _ _ _ _ r q).symm.trans (congrArg (permArr _ _) (emb_perm m t r q).symm)
  · obtain ⟨b, k, q, rfl⟩ : ∃ (b : Fin 16) (k : Fin 256) (q : Fin 2048), i = ix3 b k q := ⟨_, _, _, eq_ix3 i⟩
    exact ⟨stepOf m b k, flush0_3 _ _, mem_perm m b k q⟩

/-- The array of pooled sums after the grid. -/
theorem final_pooled (c : Dev nD) :
    (dats m (ok m) 0 c).arrAt 2 (cfgM m (ok m)).N
      = pooledArr (m ((c.tc : Thread nD τ).loc main_arg0)) (m ((c.tc : Thread nD τ).loc main_arg1))
          (m ((c.tc : Thread nD τ).loc main_arg2)) := by
  refine (dats m (ok m) 0 c).arrAt_eq_of_cover 2 _ (fun t _ => ?_) fun (i : S16x256x1.Idx) => ?_
  · refine funext fun (y : S1x32x1.Idx) => ?_
    obtain ⟨r, rfl⟩ := exists_ix3_pooled y
    refine (congrFun ((after0_2 m (ok m) c t).trans (step_pooled m c t)) _).trans ?_
    exact (pooledArr_emb _ _ _ _ _ r 0).symm.trans (congrArg (pooledArr _ _ _) (emb_pooled m t r 0).symm)
  · obtain ⟨b, k, q, rfl⟩ : ∃ (b : Fin 16) (k : Fin 256) (q : Fin 1), i = ix3 b k q := ⟨_, _, _, eq_ix3 i⟩
    exact ⟨stepOf m b k, flush0_2 _ _, mem_pooled m b k q⟩

/-! ## The results of a run -/

/-- The pooled sums as the kernel returns them. -/
def pooledRes (x : Vec F S16x256x2048 .f32) (s : IVec S16 32) (w : Vec F S256x21 .f32) : FVec F S16x256 .f32 :=
  shapeCast S16x256 (pooledArr x s w) shapeCasts_S16x256x1_S16x256

/-- The reshape after the grid leaves the pooled sums without their trailing axis. -/
theorem tail_pooled (c : Dev nD) :
    Pipeline.afterTail pcfgs (fun _ => adm m (ok m)) (dats m (ok m)) 0 (V0 m) [hostOps1] c main_v1
      = pooledRes (m ((c.tc : Thread nD τ).loc main_arg0)) (m ((c.tc : Thread nD τ).loc main_arg1))
          (m ((c.tc : Thread nD τ).loc main_arg2)) := by
  unfold Pipeline.afterTail
  show StableHlo.after [StableHlo.reshape main_v0_0 main_v1 rfl shapeCasts_S16x256x1_S16x256] _ _ = _
  rw [StableHlo.after_cons, StableHlo.after_nil]
  refine (StableHlo.reshape_result main_v0_0 main_v1 rfl shapeCasts_S16x256x1_S16x256 _ _ _).trans ?_
  refine funext fun i => congrArg (fun v => shapeCast S16x256 v shapeCasts_S16x256x1_S16x256 i) ?_
  refine (Pipeline.withArrays_arr spec0 (by decide) c (V0 m c) _ 2).trans ?_
  exact final_pooled m c

/-- Every run of the kernel ends with the two arrays and the arguments as launched. -/
theorem run : θ_run defs (onTc (τ := τ) (main (F := F))) ⟨m, fun _ => 0, ρ⟩ (fun r => ∀ c : Dev nD,
    r.2.mem ((c.tc : Thread nD τ).loc main_v1)
        = pooledRes (m ((c.tc : Thread nD τ).loc main_arg0)) (m ((c.tc : Thread nD τ).loc main_arg1))
            (m ((c.tc : Thread nD τ).loc main_arg2))
      ∧ r.2.mem ((c.tc : Thread nD τ).loc main_v0_1)
        = permArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, h.2 c⟩) (θ_run_and (run_main m ρ (ok m)) (unchanged m ρ (ok m)))
  · exact ((h.1 c).2 main_v1 (by decide : main_v1 ∈ Pipeline.restRefs sig spec0)).trans (tail_pooled m c)
  · exact ((h.1 c).1 3).trans (final_perm m c)

end Cert.KernelIdeal.Own

end
-- ==== Proof.Reference.lean ====
/-
  The reference's two results, as the steps of its text: the coordinate of each position, the valid positions, the
  interpolated weights, the masked input, its descending permutation and the pooled sums.
-/
module

public import proofs.«01_k».proof.Proof.Gen.ReferenceIdeal.Run

@[expose] public section

set_option maxRecDepth 16384

noncomputable section

namespace Cert.ReferenceIdeal.Own

open Cert.ReferenceIdeal Cert.ReferenceIdeal.Gen
open Idealize.ShloMosaic Idealize.ShloMosaic.TcCoe Idealize.SL.Sem Idealize.ShloMosaic.StableHlo

variable {F : FTy → Type} [FloatOps F]

/-- The row sizes less one, at least one. -/
def denomArr (s : IVec S16 32) : IVec S16x1 32 :=
  broadcastInDim S16x1 ![0] bcast_S16_S16x1_0
    (maxsi (broadcastInDim S16 ![] bcast_S_S16 (id (constantI S_ 32 1#32)))
      (subi s (broadcastInDim S16 ![] bcast_S_S16 (constantI S_ 32 1#32))))

/-- The positions, for every row. -/
def posArr : FVec F S16x2048 .f32 :=
  broadcastInDim S16x2048 ![0, 1] bcast_S1x2048_S16x2048_0_1
    (sitofp .f32 (broadcastInDim S1x2048 ![1] bcast_S2048_S1x2048_1 (iotaInDim S2048 32 0)))

/-- The coordinate of each position of each row. -/
def coordArr (s : IVec S16 32) : FVec F S16x2048 .f32 :=
  select
    (broadcastInDim S16x2048 ![0, 1] bcast_S16x1_S16x2048_0_1
      (broadcastInDim S16x1 ![0] bcast_S16_S16x1_0
        (cmpi .eq s (broadcastInDim S16 ![] bcast_S_S16 (constantI S_ 32 1#32)))))
    (id (addf posArr
      (broadcastInDim S16x2048 ![0, 1] bcast_S16x1_S16x2048_0_1
        (Host.divf (broadcastInDim S16x1 ![] bcast_S_S16x1 (constant S_ .f32 0x3F800000#32))
          (sitofp .f32 (denomArr s))))))
    (Host.divf posArr (broadcastInDim S16x2048 ![0, 1] bcast_S16x1_S16x2048_0_1 (sitofp .f32 (denomArr s))))

/-- One, at every position. -/
def oneRow : FVec F S16x2048 .f32 := broadcastInDim S16x2048 ![] bcast_S_S16x2048 (constant S_ .f32 0x3F800000#32)

/-- One, at every element. -/
def oneArr : FVec F S16x256x2048 .f32 :=
  broadcastInDim S16x256x2048 ![] bcast_S_S16x256x2048 (constant S_ .f32 0x3F800000#32)

/-- A row of positions per batch, for every channel. -/
def perChannel {α : Type} (v : S16x2048.Idx → α) : S16x256x2048.Idx → α :=
  broadcastInDim S16x256x2048 ![0, 1, 2] bcast_S16x1x2048_S16x256x2048_0_1_2
    (broadcastInDim S16x1x2048 ![0, 2] bcast_S16x2048_S16x1x2048_0_2 v)

/-- The mask of the valid positions, as numbers. -/
def maskArr (s : IVec S16 32) : FVec F S16x256x2048 .f32 :=
  uitofp .f32 (perChannel (cmpf .ole (coordArr (F := F) s) oneRow))

/-- The place of each position on the scale of the pieces. -/
def placeArr (s : IVec S16 32) : FVec F S16x256x2048 .f32 :=
  perChannel (mulf (broadcastInDim S16x2048 ![] bcast_S_S16x2048 (constant S_ .f32 0x41A00000#32))
    (minimumf (coordArr s) oneRow))

/-- The piece below each place. -/
def pieceArr (s : IVec S16 32) : IVec S16x256x2048 32 := fptosi 32 (placeArr (F := F) s)

/-- The place's fraction of the way to the next piece. -/
def fracArr (s : IVec S16 32) : FVec F S16x256x2048 .f32 :=
  subf (placeArr s) (sitofp .f32 (pieceArr (F := F) s))

/-- The next piece. -/
def nextArr (s : IVec S16 32) : IVec S16x256x2048 32 :=
  minsi (addi (pieceArr (F := F) s) (broadcastInDim S16x256x2048 ![] bcast_S_S16x256x2048 (constantI S_ 32 1#32)))
    (broadcastInDim S16x256x2048 ![] bcast_S_S16x256x2048 (constantI S_ 32 20#32))

/-- An array of indices along an axis of extent `n`, the negative ones counted from its end, as gather takes them. -/
def wrapped (n : BitVec 32) (i : IVec S16x256x2048 32) : IVec S16x256x2048x1 32 :=
  shapeCast _
    (select (cmpi .slt i (broadcastInDim S16x256x2048 ![] bcast_S_S16x256x2048 (constantI S_ 32 0#32)))
      (addi i (broadcastInDim S16x256x2048 ![] bcast_S_S16x256x2048 (constantI S_ 32 n))) i)
    shapeCasts_S16x256x2048_S16x256x2048x1

/-- Where those indices lie in `0 … hi`. -/
def inside (hi : BitVec 32) (i : IVec S16x256x2048x1 32) : IVec S16x256x2048 1 :=
  Host.reduce IntOp.andi
    (andi (cmpi .sge i (broadcastInDim S16x256x2048x1 ![] bcast_S_S16x256x2048x1 (constantI S_ 32 0#32)))
      (cmpi .sle i
        (broadcastInDim S16x256x2048x1 ![0, 1, 2, 3] bcast_S1x1x1x1_S16x256x2048x1_0_1_2_3
          (broadcastInDim S1x1x1x1 ![3] bcast_S1_S1x1x1x1_3 (constantI S1 32 hi)))))
    (constantI S_ 1 1#1) reducesTo_S16x256x2048x1_S16x256x2048_d3 h_S_

/-- What an index outside gives. -/
def outside : FVec F S16x256x2048 .f32 :=
  broadcastInDim S16x256x2048 ![] bcast_S_S16x256x2048 (constant S_ .f32 0x7FC00000#32)

/-- The weights, for every batch. -/
def weightArr (w : Vec F S256x21 .f32) : FVec F S16x256x21 .f32 :=
  broadcastInDim S16x256x21 ![0, 1, 2] bcast_S1x256x21_S16x256x21_0_1_2
    (broadcastInDim S1x256x21 ![1, 2] bcast_S256x21_S1x256x21_1_2 w)

/-- The weights at an array of pieces. -/
def takeW (w : Vec F S256x21 .f32) (i : IVec S16x256x2048 32) : FVec F S16x256x2048 .f32 :=
  select (inside 20#32 (wrapped 21#32 i))
    (Host.gather gather_S16x256x21_S16x256x2048x1_S16x256x2048_n_2_01_01_2_3_111 (weightArr w) (wrapped 21#32 i)) outside

/-- An array's elements at an array of positions. -/
def takeX (v : FVec F S16x256x2048 .f32) (i : IVec S16x256x2048 32) : FVec F S16x256x2048 .f32 :=
  select (inside 2047#32 (wrapped 2048#32 i))
    (Host.gather gather_S16x256x2048_S16x256x2048x1_S16x256x2048_n_2_01_01_2_3_111 v (wrapped 2048#32 i)) outside

/-- The interpolated weights. -/
def interpArr (s : IVec S16 32) (w : Vec F S256x21 .f32) : FVec F S16x256x2048 .f32 :=
  addf (mulf (subf oneArr (fracArr s)) (takeW w (pieceArr (F := F) s)))
    (mulf (fracArr s) (takeW w (nextArr (F := F) s)))

/-- The input, the invalid positions pushed down. -/
def keyArr (x : Vec F S16x256x2048 .f32) (s : IVec S16 32) : FVec F S16x256x2048 .f32 :=
  addf x (mulf (subf oneArr (maskArr s))
    (broadcastInDim S16x256x2048 ![] bcast_S_S16x256x2048 (constant S_ .f32 0xC7C34F80#32)))

/-- The descending permutation of each row. -/
def permArr (x : Vec F S16x256x2048 .f32) (s : IVec S16 32) : IVec S16x256x2048 32 :=
  Host.reverse [2] (Host.sort2 S16x256x2048 2 comparator_f32_i32_d2 (keyArr x s) (iotaInDim S16x256x2048 32 2)).2

/-- The pooled sums. -/
def pooledArr (x : Vec F S16x256x2048 .f32) (s : IVec S16 32) (w : Vec F S256x21 .f32) : FVec F S16x256 .f32 :=
  Host.reduceAdd (mulf (mulf (takeX (keyArr x s) (permArr x s)) (interpArr s w)) (maskArr s))
    (constant S_ .f32 0x00000000#32) reducesTo_S16x256x2048_S16x256_d2 h_S_

variable (m : (ℓ : Loc nD τ sig) → Buf (Elt F) ℓ) (ρ : Dev nD → PrngReg)

/-- The reference's first result. -/
theorem out_pooled (c : Dev nD) :
    Value.res_main_v60 m c = pooledArr (m ((c.tc : Thread nD τ).loc main_arg0)) (m ((c.tc : Thread nD τ).loc main_arg1))
      (m ((c.tc : Thread nD τ).loc main_arg2)) := rfl

/-- Every run of the reference ends with the two results and the arguments as launched. -/
theorem run : θ_run defs (onTc (τ := τ) (main (F := F))) ⟨m, fun _ => 0, ρ⟩ (fun r => ∀ c : Dev nD,
    r.2.mem ((c.tc : Thread nD τ).loc main_v60)
        = pooledArr (m ((c.tc : Thread nD τ).loc main_arg0)) (m ((c.tc : Thread nD τ).loc main_arg1))
            (m ((c.tc : Thread nD τ).loc main_arg2))
      ∧ r.2.mem ((c.tc : Thread nD τ).loc main_v56)
        = permArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (out_pooled m c), (h c).2.1.trans rfl, (h c).2.2⟩) (Value.run m ρ)

end Cert.ReferenceIdeal.Own

end
-- ==== Proof.Row.lean ====
/-
  One row of a block under the network, read over the reals: each stage is one stage of the bitonic sort of the pairs
  (value, index), so the row ends in descending order of its pairs, and the indices it ends with are a permutation of
  the positions.
-/
module

public import proofs.«01_k».proof.Proof.Stages
public import Idealize.ShloMosaic.Lib.ValueIdx
public import Idealize.ShloMosaic.Lib.ValueIdxCoords
public import Idealize.ShloMosaic.Lib.ValueLayout
public import Idealize.ShloMosaic.Lib.WordCmp
public import Idealize.ShloMosaic.Lib.Pipeline.Value
public import Idealize.ShloMosaic.Lib.SortNet.Sorts
public import Idealize.ShloMosaic.Lib.SortNet.Printed
public import Idealize.ShloMosaic.PureOps.Ideal.Laws
public import Mathlib.Data.Prod.Lex

@[expose] public section

set_option maxRecDepth 16384

noncomputable section

namespace Cert.KernelIdeal.Own

open Idealize.ShloMosaic hiding ix1 ix2 ix3
open Idealize.ShloMosaic.TcCoe Idealize.ShloMosaic.Tactic
open Idealize.ShloMosaic.ValueIdx
open Idealize.ShloMosaic.SortNet (partner stage sortNet upperXor)
open Cert.KernelIdeal.Gen

/-! ## The rolls and the masks at an index -/

section Roll
variable {α : Type}

/-- The row rolled left, where the source is to the right inside the row. -/
theorem rollL_apply {j : Nat} (hj : j ≤ 2048) (v : S32x2048.Idx → α) (r : Fin 32) (q p : Fin 2048)
    (hp : p.val = q.val + j) : rollL j hj v (ix2 r q) = v (ix2 r p) := by
  have hq : q.val < 2048 - j := by omega
  refine (concatenate_pair_apply_left (s₁ := Cols (2048 - j)) (s₂ := Cols j) (t := S32x2048) 1 _ _ _ (ix2 r q) rfl
    (ix2 r (⟨q.val, hq⟩ : Fin (2048 - j))) fun b => ?_).trans ?_
  · fin_cases b <;> rfl
  · refine extractStridedSlice_apply _ _ _ _ (ix2 r p) fun b => ?_
    fin_cases b
    · exact (Nat.zero_add _).symm
    · exact hp.trans (Nat.add_comm _ _)

/-- The row rolled right, where the source is to the left inside the row. -/
theorem rollR_apply {j : Nat} (hj : j ≤ 2048) (v : S32x2048.Idx → α) (r : Fin 32) (q p : Fin 2048)
    (hp : p.val + j = q.val) : rollR j hj v (ix2 r q) = v (ix2 r p) := by
  have hq : p.val < 2048 - j := by omega
  refine (concatenate_pair_apply_right (s₁ := Cols j) (s₂ := Cols (2048 - j)) (t := S32x2048) 1 _ _ _ (ix2 r q) rfl rfl
    (ix2 r (⟨p.val, hq⟩ : Fin (2048 - j))) (fun b hb => ?_) hp).trans ?_
  · fin_cases b
    · rfl
    · exact absurd rfl hb
  · refine extractStridedSlice_apply _ _ _ _ (ix2 r p) fun b => ?_
    fin_cases b
    · exact (Nat.zero_add _).symm
    · exact (Nat.zero_add _).symm

end Roll

/-- The position at an index. -/
theorem lane_apply (u : Fin 1) (q : Fin 2048) : lane (ix2 u q) = BitVec.ofNat 32 q.val := by
  show BitVec.ofNat 32 (0 * 2048 + q.val) = _
  rw [Nat.zero_mul, Nat.zero_add]

/-- The positions spread over a block, at an index. -/
theorem positions_apply (r : Fin 32) (q : Fin 2048) :
    iota .tc S32x2048 32 [1] iota_S32x2048_d1_w32 (ix2 r q) = BitVec.ofNat 32 q.val := by
  show BitVec.ofNat 32 (0 * 2048 + q.val) = _
  rw [Nat.zero_mul, Nat.zero_add]

/-- The mask of the positions with bit `t` clear. -/
theorem lowMask_apply {t : Nat} (ht : t < 32) (u : Fin 1) (q : Fin 2048) :
    lowMask (2 ^ t) (ix2 u q) = BitVec.ofBool (decide (q.val &&& 2 ^ t = 0)) := by
  have hq : q.val < 2 ^ 32 := by omega
  have hd : (BitVec.ofNat 32 (2 ^ t)).toNat = 2 ^ t := by
    rw [BitVec.toNat_ofNat]
    exact Nat.mod_eq_of_lt (Nat.pow_lt_pow_right (by omega) ht)
  show BitVec.ofBool (IntOp.andi (lane (ix2 u q)) (BitVec.ofNat 32 (2 ^ t)) == 0#32) = _
  rw [lane_apply]
  refine congrArg BitVec.ofBool ?_
  rw [Bool.eq_iff_iff, beq_iff_eq, decide_eq_true_eq, SortNet.and_distance_eq_zero_iff hq _ hd]

/-- A row of positions spread over the rows of a block. -/
theorem spread_apply {α : Type} (m : S1x2048.Idx → α) (h : S1x2048.Broadcasts S32x2048) (r : Fin 32) (q : Fin 2048) :
    broadcastTo S32x2048 m h (ix2 r q) = m (ix2 0 q) := broadcastTo_1b_ab_apply m h r q

/-- A mask of positions, at an index of the block. -/
theorem maskRows_apply (m : IVec S1x2048 1) (r : Fin 32) (q : Fin 2048) : maskRows m (ix2 r q) = m (ix2 0 q) := by
  refine (spread_apply _ _ r q).trans ?_
  exact shapeCast_apply m _ _ _ rfl

/-- What the partner of a position holds is the entry at the partner. -/
theorem partnerOf_apply {α : Type} (s : Fin 11) (v : S32x2048.Idx → α) (r : Fin 32) (q : Fin 2048) :
    partnerOf (2 ^ s.val) (dist_le s) v (ix2 r q) = v (ix2 r (partner 11 s.val q)) := by
  show Scalar.select (maskRows (lowMask (2 ^ s.val)) (ix2 r q)) (rollL (2 ^ s.val) (dist_le s) v (ix2 r q))
    (rollR (2 ^ s.val) (dist_le s) v (ix2 r q)) = _
  rw [maskRows_apply, lowMask_apply (by omega), SortNet.select_ofBool]
  by_cases h : q.val &&& 2 ^ s.val = 0
  · rw [if_pos (decide_eq_true h)]
    exact rollL_apply _ v r q _ (SortNet.partner_val_of_clear s.isLt q h)
  · rw [if_neg (by rw [decide_eq_false h]; exact Bool.false_ne_true)]
    have hp := SortNet.partner_val_of_set s.isLt q h
    exact rollR_apply _ v r q _ (by omega)

/-! ## One stage on a row -/

/-- A row of pairs: a value and the position it came from, in the order that compares values first. -/
abbrev Row : Type := Fin (2 ^ 11) → EReal ×ₗ ℕ

/-- Row `r` of the state holds the pairs `R`. -/
def Holds (x : State Ideal) (r : Fin 32) (R : Row) : Prop :=
  ∀ q : Fin 2048, (x.1 (ix2 r q) = (ofLex (R q)).1 ∧ x.2 (ix2 r q) = BitVec.ofNat 32 (ofLex (R q)).2)
    ∧ (ofLex (R q)).2 < 2048

/-- Signed order on the words of small numbers is the numbers' order. -/
theorem sgt_small {a b : ℕ} (ha : a < 2048) (hb : b < 2048) :
    IntOp.cmpi .sgt (BitVec.ofNat 32 a) (BitVec.ofNat 32 b) = BitVec.ofBool (decide (b < a)) :=
  WordCmp.cmpi_sgt_ofNat (by omega) (by omega)

/-- "This pair is greater than the partner's", as the program computes it. -/
theorem greater_apply (a b : EReal ×ₗ ℕ) (ha : (ofLex a).2 < 2048) (hb : (ofLex b).2 < 2048) :
    IntOp.ori (Ideal.cmp .ogt (ofLex a).1 (ofLex b).1)
        (IntOp.andi (Ideal.cmp .oeq (ofLex a).1 (ofLex b).1)
          (IntOp.cmpi .sgt (BitVec.ofNat 32 (ofLex a).2) (BitVec.ofNat 32 (ofLex b).2)))
      = BitVec.ofBool (decide (b < a)) := by
  rw [sgt_small ha hb]
  have e : b < a ↔ (ofLex b).1 < (ofLex a).1 ∨ (ofLex b).1 = (ofLex a).1 ∧ (ofLex b).2 < (ofLex a).2 :=
    Prod.Lex.lt_iff
  show IntOp.ori (BitVec.ofBool (decide ((ofLex b).1 < (ofLex a).1)))
    (IntOp.andi (BitVec.ofBool (decide ((ofLex a).1 = (ofLex b).1))) _) = _
  have e2 : decide ((ofLex a).1 = (ofLex b).1) = decide ((ofLex b).1 = (ofLex a).1) := decide_eq_decide.2 eq_comm
  rw [e2, decide_eq_decide.2 e, Bool.decide_or, Bool.decide_and]
  cases decide ((ofLex b).1 < (ofLex a).1) <;> cases decide ((ofLex b).1 = (ofLex a).1) <;>
    cases decide ((ofLex b).2 < (ofLex a).2) <;> rfl

/-- The direction of a stage: descending where the block's bit is clear. -/
def dirOf (l : ℕ) (i : Fin (2 ^ 11)) : Bool := decide (i.val &&& 2 ^ (l + 1) = 0) == true

/-- Where a position keeps its own pair. -/
theorem keepMask_apply (l s : Fin 11) (x : State Ideal) (r : Fin 32) (R : Row) (h : Holds x r R) (q : Fin 2048) :
    keepMask (2 ^ (l.val + 1)) (2 ^ s.val) x.1 (partnerOf (2 ^ s.val) (dist_le s) x.1) x.2
        (partnerOf (2 ^ s.val) (dist_le s) x.2) (ix2 r q)
      = BitVec.ofBool (decide (decide (R (partner 11 s.val q) < R q) = upperXor s.val (dirOf l.val) q)) := by
  have e1 : broadcastTo S32x2048
      (broadcastTo S32x2048 (xori (xori (lowMask (2 ^ (l.val + 1))) (lowMask (2 ^ s.val))) (constantI S1x2048 1 1#1))
        broadcasts_S1x2048_S32x2048) broadcasts_S32x2048_S32x2048 (ix2 r q)
      = BitVec.ofBool (decide (decide (q.val &&& 2 ^ (l.val + 1) = 0) = decide (q.val &&& 2 ^ s.val = 0))) := by
    refine (broadcastTo_apply _ _ _ (ix2 r q) fun b => ?_).trans ((spread_apply _ _ r q).trans ?_)
    · fin_cases b <;> rfl
    · show IntOp.xori (IntOp.xori (lowMask (2 ^ (l.val + 1)) (ix2 0 q)) (lowMask (2 ^ s.val) (ix2 0 q))) 1#1 = _
      rw [lowMask_apply (by omega), lowMask_apply (by omega), SortNet.ofBool_xor_xor_one]
  have hq := h q
  have hp := h (partner 11 s.val q)
  have e2 : (ori (cmpf .ogt x.1 (partnerOf (2 ^ s.val) (dist_le s) x.1))
      (andi (cmpf .oeq x.1 (partnerOf (2 ^ s.val) (dist_le s) x.1))
        (cmpi .sgt x.2 (partnerOf (2 ^ s.val) (dist_le s) x.2)))) (ix2 r q)
      = BitVec.ofBool (decide (R (partner 11 s.val q) < R q)) := by
    show IntOp.ori (Ideal.cmp .ogt (x.1 (ix2 r q)) (partnerOf (2 ^ s.val) (dist_le s) x.1 (ix2 r q)))
      (IntOp.andi (Ideal.cmp .oeq (x.1 (ix2 r q)) (partnerOf (2 ^ s.val) (dist_le s) x.1 (ix2 r q)))
        (IntOp.cmpi .sgt (x.2 (ix2 r q)) (partnerOf (2 ^ s.val) (dist_le s) x.2 (ix2 r q)))) = _
    rw [partnerOf_apply, partnerOf_apply, hq.1.1, hq.1.2, hp.1.1, hp.1.2]
    exact greater_apply _ _ hq.2 hp.2
  show IntOp.xori (IntOp.xori _ _) 1#1 = _
  rw [e1, e2, SortNet.ofBool_xor_xor_one]
  unfold upperXor dirOf
  cases decide (R (partner 11 s.val q) < R q) <;> by_cases h1 : q.val &&& 2 ^ (l.val + 1) = 0 <;>
    by_cases h2 : q.val &&& 2 ^ s.val = 0 <;> simp [h1, h2]

/-- One stage of the kernel on a row is one stage of the sort. -/
theorem stage_holds (l s : Fin 11) (hsl : s ≤ l) (x : State Ideal) (r : Fin 32) (R : Row) (h : Holds x r R) :
    Holds (stageOf (2 ^ (l.val + 1)) (2 ^ s.val) (dist_le s) x) r
      (SortNet.Network.apply (stage 11 s.val (dirOf l.val)) R) := by
  intro q
  have hq := h q
  have hp := h (partner 11 s.val q)
  have hk : ∀ j, upperXor s.val (dirOf l.val) (partner 11 s.val j) = !upperXor s.val (dirOf l.val) j := fun j =>
    SortNet.upperXor_partner s.isLt _ j (SortNet.sizeClear_partner s.isLt hsl true j)
  rw [← SortNet.stage_upperXor, SortNet.apply_stage_select s.isLt _ hk R q]
  show (Scalar.select (keepMask _ _ _ _ _ _ (ix2 r q)) (x.1 (ix2 r q)) (partnerOf _ _ x.1 (ix2 r q)) = _
    ∧ Scalar.select (keepMask _ _ _ _ _ _ (ix2 r q)) (x.2 (ix2 r q)) (partnerOf _ _ x.2 (ix2 r q)) = _) ∧ _
  rw [keepMask_apply l s x r R h q, SortNet.select_ofBool, SortNet.select_ofBool, partnerOf_apply, partnerOf_apply]
  by_cases hc : decide (R (partner 11 s.val q) < R q) = upperXor s.val (dirOf l.val) q
  · rw [if_pos hc, if_pos (decide_eq_true hc), if_pos (decide_eq_true hc)]
    exact hq
  · rw [if_neg hc, if_neg (by simpa using hc), if_neg (by simpa using hc)]
    exact hp

/-! ## The whole network on a row -/

/-- The stages of a list, one after the other. -/
theorem stages_hold (r : Fin 32) : ∀ (L : List (Fin 11 × Fin 11)) (_ : ∀ ls ∈ L, ls.2 ≤ ls.1) (x : State Ideal) (R : Row),
    Holds x r R →
      Holds (L.foldl (fun x ls => stageOf (2 ^ (ls.1.val + 1)) (2 ^ ls.2.val) (dist_le ls.2) x) x) r
        (SortNet.Network.apply (L.flatMap fun ls => stage 11 ls.2.val (dirOf ls.1.val)) R)
  | [], _, _, _, h => h
  | ls :: L, hL, x, R, h => by
    rw [List.foldl_cons, List.flatMap_cons, SortNet.Network.apply_append]
    exact stages_hold r L (fun z hz => hL z (List.mem_cons_of_mem _ hz)) _ _
      (stage_holds ls.1 ls.2 (hL ls List.mem_cons_self) x r R h)

/-- The levels and distances of the schedule, as numbers. -/
theorem schedule_val : schedule.map (fun ls => (ls.1.val, ls.2.val))
    = (List.range 11).flatMap fun l => (List.range (l + 1)).reverse.map fun s => (l, s) := by decide +kernel

/-- In the schedule no distance exceeds its level. -/
theorem schedule_le : ∀ ls ∈ schedule, ls.2 ≤ ls.1 := by decide +kernel

/-- The schedule's stages are the bitonic sort's. -/
theorem schedule_sortNet : (schedule.flatMap fun ls => stage 11 ls.2.val (dirOf ls.1.val)) = sortNet 11 true := by
  have e : (schedule.flatMap fun ls => stage 11 ls.2.val (dirOf ls.1.val))
      = (schedule.map fun ls => (ls.1.val, ls.2.val)).flatMap fun ls => stage 11 ls.2 (dirOf ls.1) :=
    (List.flatMap_map (fun ls : Fin 11 × Fin 11 => (ls.1.val, ls.2.val))
      (fun ls : ℕ × ℕ => stage 11 ls.2 (dirOf ls.1)) schedule).symm
  rw [e, schedule_val, List.flatMap_assoc]
  refine congrArg (fun f => (List.range 11).flatMap f) (funext fun l => ?_)
  rw [List.flatMap_map]
  rfl

/-- The network on a row is the sort. -/
theorem network_holds (x : State Ideal) (r : Fin 32) (R : Row) (h : Holds x r R) :
    Holds (networkOf x) r (SortNet.Network.apply (sortNet 11 true) R) := by
  rw [← schedule_sortNet]
  exact stages_hold r schedule schedule_le x R h

/-- A row ends as its starting pairs rearranged, in descending order of the pairs. -/
theorem sorted_row (size : BitVec 32) (x : Vec Ideal S1x32x2048 .f32) (r : Fin 32) :
    ∃ σ : Equiv.Perm (Fin 2048),
      (∀ q : Fin 2048, (sortedOf size x).1 (ix2 r q) = startOf size x (ix2 r (σ q))
        ∧ (sortedOf size x).2 (ix2 r q) = BitVec.ofNat 32 (σ q).val)
      ∧ Antitone fun q : Fin 2048 => (toLex (startOf size x (ix2 r (σ q)), (σ q).val) : EReal ×ₗ ℕ) := by
  let R : Row := fun q : Fin 2048 => toLex (startOf size x (ix2 r q), q.val)
  have h0 : Holds (startOf size x, iota .tc S32x2048 32 [1] iota_S32x2048_d1_w32) r R := fun q =>
    ⟨⟨rfl, positions_apply r q⟩, q.isLt⟩
  have h := network_holds _ r R h0
  have hA := SortNet.sortNet_apply_antitone 11 R
  obtain ⟨σ, hσ⟩ := SortNet.Network.exists_perm (sortNet 11 true) R
  rw [hσ] at h hA
  exact ⟨σ, fun q => (h q).1, hA⟩

end Cert.KernelIdeal.Own

end
-- ==== Proof.Take.lean ====
/-
  The reference's reads along the last axis: at an index inside the axis each gives the element there.
-/
module

public import proofs.«01_k».proof.Proof.Reference
public import Idealize.ShloMosaic.Lib.ValueIdx
public import Idealize.ShloMosaic.Lib.ValueIdxCore
public import Idealize.ShloMosaic.Lib.ValueIdxCoords
public import Idealize.ShloMosaic.Lib.ValueLayout
public import Idealize.ShloMosaic.Lib.WordCmp
public import Idealize.ShloMosaic.Lib.Pipeline.Value
public import Idealize.ShloMosaic.PureOps.Ideal.Laws

@[expose] public section

set_option maxRecDepth 16384

noncomputable section

namespace Cert.ReferenceIdeal.Own

open Cert.ReferenceIdeal Cert.ReferenceIdeal.Gen
open Idealize.ShloMosaic
open Idealize.ShloMosaic.TcCoe
open Idealize.ShloMosaic.ValueIdx

/-! ## The gather along the last axis -/

section Gather
variable {α : Type}

/-- The gather of one element per batch, channel and position along an operand's last axis. -/
abbrev lastDims (N : Nat)
    (wf : GatherDims.WF ⟨3, ![16, 256, N]⟩ S16x256x2048x1 S16x256x2048 [] [2] [0, 1] [2] [0, 1] 3 ![1, 1, 1]) :
    GatherDims ⟨3, ![16, 256, N]⟩ S16x256x2048x1 S16x256x2048 where
  offsetDims := []
  collapsedSliceDims := [2]
  operandBatchingDims := [0, 1]
  startIndicesBatchingDims := [0, 1]
  startIndexMap := [2]
  indexVectorDim := 3
  sliceSizes := ![1, 1, 1]
  wf := wf

/-- On its batching axes the gather reads the operand at the result's own coordinate. -/
theorem operand_batch (N : Nat) (wf) (i : IVec S16x256x2048x1 32) (b : Fin 16) (k : Fin 256) (q : Fin 2048)
    (a : Fin 3) (ha : a ∈ ([0, 1] : List (Fin 3))) :
    ((lastDims N wf).operandIdx (ix3 b k q) i a).val = ((lastDims N wf).batchCoord (ix3 b k q) a) := by
  show (lastDims N wf).start (ix3 b k q) i a + (lastDims N wf).batchCoord (ix3 b k q) a
      + (lastDims N wf).offCoord (ix3 b k q) a = _
  rw [GatherDims.start_batching _ _ _ _ ha,
    GatherDims.offCoord_eq_zero _ _ _ (fun h => ((GatherDims.mem_sKept _ _).mp h).2 ha), Nat.zero_add, Nat.add_zero]

/-- On its last axis the gather reads the operand at the index given, when that lies inside the axis. -/
theorem operand_last (N : Nat) (wf) (i : IVec S16x256x2048x1 32) (b : Fin 16) (k : Fin 256) (q : Fin 2048) (n : Fin N)
    (hi : (i (ix4 b k q 0)).toInt.toNat = n.val) :
    ((lastDims N wf).operandIdx (ix3 b k q) i (2 : Fin 3)).val = n.val := by
  show (lastDims N wf).start (ix3 b k q) i (2 : Fin 3) + (lastDims N wf).batchCoord (ix3 b k q) (2 : Fin 3)
      + (lastDims N wf).offCoord (ix3 b k q) (2 : Fin 3) = _
  have hm : (2 : Fin 3) ∈ (lastDims N wf).startIndexMap := List.mem_singleton.mpr rfl
  rw [GatherDims.batchCoord_eq_zero _ _ _ (show (2 : Fin 3) ∉ ([0, 1] : List (Fin 3)) by decide),
    GatherDims.offCoord_eq_zero _ _ _ (fun h => ((GatherDims.mem_sKept _ _).mp h).1 (List.mem_singleton.mpr rfl)),
    Nat.add_zero]
  unfold GatherDims.start
  rw [dif_pos hm]
  have hs : (lastDims N wf).siIdx (ix3 b k q) ⟨List.idxOf (2 : Fin 3) (lastDims N wf).startIndexMap,
      List.idxOf_lt_length_iff.2 hm⟩ = ix4 b k q 0 := by
    funext c
    refine Fin.ext ?_
    match c with
    | ⟨0, _⟩ => rfl
    | ⟨1, _⟩ => rfl
    | ⟨2, _⟩ => rfl
    | ⟨3, _⟩ => rfl
  rw [hs]
  show min (i (ix4 b k q 0)).toInt.toNat (N - 1) = n.val
  rw [hi]
  exact Nat.min_eq_left (Nat.le_sub_one_of_lt n.isLt)

/-- The gather at an index inside the operand's last axis. -/
theorem gather_last (N : Nat) (wf) (x : (⟨3, ![16, 256, N]⟩ : Shape).Idx → α) (i : IVec S16x256x2048x1 32) (b : Fin 16)
    (k : Fin 256) (q : Fin 2048) (n : Fin N) (hi : (i (ix4 b k q 0)).toInt.toNat = n.val) :
    Host.gather (lastDims N wf) x i (ix3 b k q) = x (ix3 b k n) := by
  refine congrArg x (funext fun a => Fin.ext ?_)
  match a with
  | ⟨0, _⟩ =>
    refine (operand_batch N wf i b k q 0 (by decide)).trans ?_
    unfold GatherDims.batchCoord
    rw [dif_pos (show (0 : Fin 3) ∈ ([0, 1] : List (Fin 3)) by decide)]
    rfl
  | ⟨1, _⟩ =>
    refine (operand_batch N wf i b k q 1 (by decide)).trans ?_
    unfold GatherDims.batchCoord
    rw [dif_pos (show (1 : Fin 3) ∈ ([0, 1] : List (Fin 3)) by decide)]
    rfl
  | ⟨2, _⟩ => exact operand_last N wf i b k q n hi

end Gather

/-! ## The indices and the test that they lie inside -/

/-- A nonnegative index is left as it is. -/
theorem wrapped_apply (N : BitVec 32) (i : IVec S16x256x2048 32) (b : Fin 16) (k : Fin 256) (q : Fin 2048) (n : Nat)
    (hn : n < 2 ^ 31) (hi : i (ix3 b k q) = BitVec.ofNat 32 n) : wrapped N i (ix4 b k q 0) = BitVec.ofNat 32 n := by
  refine (shapeCast_apply _ _ _ (ix3 b k q) ?_).trans ?_
  · rw [Shape.rowMajor_val_four, Shape.rowMajor_val_three]
    show _ = ((b.val * 256 + k.val) * 2048 + q.val) * 1 + 0
    rw [Nat.mul_one, Nat.add_zero]
    rfl
  · show Scalar.select (IntOp.cmpi .slt (i (ix3 b k q)) 0#32) _ (i (ix3 b k q)) = _
    rw [hi]
    have h : IntOp.cmpi .slt (BitVec.ofNat 32 n) (BitVec.ofNat 32 0) = BitVec.ofBool (decide (n < 0)) :=
      WordCmp.cmpi_slt_ofNat hn (by decide)
    rw [h, decide_eq_false (Nat.not_lt_zero n)]
    rfl

/-- The test passes where the index lies inside. -/
theorem inside_apply (hi : Nat) (hh : hi < 2 ^ 31) (i : IVec S16x256x2048x1 32) (b : Fin 16) (k : Fin 256) (q : Fin 2048)
    (n : Nat) (hn : n ≤ hi) (h : i (ix4 b k q 0) = BitVec.ofNat 32 n) :
    inside (BitVec.ofNat 32 hi) i (ix3 b k q) = 1#1 := by
  have hR : S16x256x2048x1.Reduces [3] S16x256x2048 := by decide
  unfold inside
  rw [Host.reduce_eq_fold_single _ _ _ _ hR]
  have hu : (Finset.univ : Finset (Fin (S16x256x2048x1.size 3))) = {⟨0, Nat.one_pos⟩} := rfl
  rw [hu, Finset.fold_singleton]
  have hl : hR.lift (ix3 b k q) (0 : Fin 1) = ix4 b k q 0 := by
    funext c
    refine Fin.ext ?_
    match c with
    | ⟨0, _⟩ => rfl
    | ⟨1, _⟩ => rfl
    | ⟨2, _⟩ => rfl
    | ⟨3, _⟩ => rfl
  show IntOp.andi (IntOp.andi (IntOp.cmpi .sge (i (hR.lift (ix3 b k q) (0 : Fin 1))) 0#32)
    (IntOp.cmpi .sle (i (hR.lift (ix3 b k q) (0 : Fin 1))) (BitVec.ofNat 32 hi))) 1#1 = 1#1
  have h0 : IntOp.cmpi .sge (BitVec.ofNat 32 n) (BitVec.ofNat 32 0) = BitVec.ofBool (decide (0 ≤ n)) :=
    WordCmp.cmpi_sge_ofNat (Nat.lt_of_le_of_lt hn hh) (by decide)
  have h1 : IntOp.cmpi .sle (BitVec.ofNat 32 n) (BitVec.ofNat 32 hi) = BitVec.ofBool (decide (n ≤ hi)) :=
    WordCmp.cmpi_sle_ofNat (Nat.lt_of_le_of_lt hn hh) hh
  rw [hl, h, h0, h1, decide_eq_true (Nat.zero_le n), decide_eq_true hn]
  rfl

/-- A choice by the bit one. -/
theorem select_one {α : Type} (x y : α) : Scalar.select 1#1 x y = x := rfl

/-! ## The reads -/

section Reads
variable {F : FTy → Type} [FloatOps F]

/-- The weights read at a piece. -/
theorem takeW_apply (w : Vec F S256x21 .f32) (i : IVec S16x256x2048 32) (b : Fin 16) (k : Fin 256) (q : Fin 2048)
    (n : Fin 21) (hi : i (ix3 b k q) = BitVec.ofNat 32 n.val) : takeW w i (ix3 b k q) = w (ix2 k n) := by
  have hw := wrapped_apply 21#32 i b k q n.val (by omega) hi
  unfold takeW
  show Scalar.select (inside (BitVec.ofNat 32 20) (wrapped 21#32 i) (ix3 b k q)) _ _ = _
  rw [inside_apply 20 (by decide) _ b k q n.val (by omega) hw]
  refine (select_one _ _).trans ((gather_last 21 _ _ _ b k q n ?_).trans ?_)
  · rw [hw, WordCmp.toInt_ofNat_of_lt (by omega)]; rfl
  · refine (broadcastInDim_apply _ _ _ _ (ix3 0 k n) fun a => ?_).trans
      (broadcastInDim_apply _ _ _ _ (ix2 k n) fun a => ?_)
    · fin_cases a <;> rfl
    · fin_cases a <;> rfl

/-- An array read at a position. -/
theorem takeX_apply (v : FVec F S16x256x2048 .f32) (i : IVec S16x256x2048 32) (b : Fin 16) (k : Fin 256) (q : Fin 2048)
    (n : Fin 2048) (hi : i (ix3 b k q) = BitVec.ofNat 32 n.val) : takeX v i (ix3 b k q) = v (ix3 b k n) := by
  have hw := wrapped_apply 2048#32 i b k q n.val (by omega) hi
  unfold takeX
  show Scalar.select (inside (BitVec.ofNat 32 2047) (wrapped 2048#32 i) (ix3 b k q)) _ _ = _
  rw [inside_apply 2047 (by decide) _ b k q n.val (by omega) hw]
  refine (select_one _ _).trans (gather_last 2048 _ _ _ b k q n ?_)
  rw [hw, WordCmp.toInt_ofNat_of_lt (by omega)]
  rfl

end Reads

end Cert.ReferenceIdeal.Own

end
-- ==== Proof.Inputs.lean ====
/-
  What the two programs derive from the row sizes and the input, read over the reals at one element: the coordinates,
  the valid positions, the places and the values that are sorted are the same numbers.
-/
module

public import proofs.«01_k».proof.Proof.Arrays
public import proofs.«01_k».proof.Proof.Row
public import proofs.«01_k».proof.Proof.Take
public import Idealize.ShloMosaic.Lib.IdealHost

@[expose] public section

set_option maxRecDepth 16384

noncomputable section

namespace Cert.Agree

open Idealize.ShloMosaic hiding ix1 ix2 ix3
open Idealize.ShloMosaic.TcCoe
open Idealize.ShloMosaic.ValueIdx
open Cert.ReferenceIdeal (S16 S256x21 S16x256 S16x256x2048 S16x2048)
open Cert.KernelIdeal (S1x2048 S32x2048 S1x32x2048)
open Cert.KernelIdeal.Own (coordOf validOf placeOf startOf sortedOf blockAt wblockAt grp rowIn chan lane)
open Cert.ReferenceIdeal.Own (denomArr posArr coordArr oneRow oneArr perChannel maskArr placeArr keyArr)

/-- The larger of two words does not depend on their order. -/
theorem maxsi_swap (x y : BitVec 32) : IntOp.maxsi x y = IntOp.maxsi y x := by
  unfold IntOp.maxsi
  simp only [BitVec.slt_eq_decide, decide_eq_true_eq]
  split <;> split
  · omega
  · rfl
  · rfl
  · exact BitVec.eq_of_toInt_eq (by omega)

/-- A choice between two arrays by one bit, at an index. -/
theorem select_at {ι α : Type} (c : BitVec 1) (f g : ι → α) (i : ι) :
    Scalar.select c f g i = Scalar.select c (f i) (g i) := by
  unfold Scalar.select
  split <;> rfl

/-- The reference's divisor of a row: its size less one, at least one. -/
theorem denomArr_apply (s : IVec S16 32) (b : Fin 16) :
    denomArr s (ix2 b 0) = Scalar.maxsi (Scalar.subi (s (ix1 b)) 1#32) 1#32 := by
  refine (broadcastInDim_apply _ _ _ _ (ix1 b) fun a => ?_).trans ?_
  · fin_cases a; rfl
  · exact maxsi_swap 1#32 (IntOp.subi (s (ix1 b)) 1#32)

/-- A column of one number per row, spread over the positions. -/
theorem column_apply {α : Type} (h) (v : Cert.ReferenceIdeal.S16x1.Idx → α) (b : Fin 16) (q : Fin 2048) :
    broadcastInDim S16x2048 ![0, 1] h v (ix2 b q) = v (ix2 b 0) :=
  broadcastInDim_apply _ _ _ _ (ix2 b 0) fun a => by fin_cases a <;> rfl

/-- The reference's positions. -/
theorem posArr_apply (b : Fin 16) (q : Fin 2048) :
    (posArr (F := Ideal)) (ix2 b q) = sitofp (F := Ideal) .f32 lane (ix2 0 q) := by
  refine (broadcastInDim_apply _ _ _ _ (ix2 0 q) fun a => ?_).trans ?_
  · fin_cases a <;> rfl
  · show FloatOps.sitofp .f32 (broadcastInDim _ _ _ _ _) = FloatOps.sitofp .f32 (lane (ix2 0 q))
    refine congrArg (FloatOps.sitofp .f32) ?_
    refine (broadcastInDim_apply _ _ _ _ (ix1 q) fun a => ?_).trans (Cert.KernelIdeal.Own.lane_apply 0 q).symm
    · fin_cases a; rfl

/-- The coordinate of a position of a row is the same in both programs. -/
theorem coord_eq (s : IVec S16 32) (b : Fin 16) (q : Fin 2048) :
    (coordArr (F := Ideal) s) (ix2 b q) = coordOf (F := Ideal) (s (ix1 b)) (ix2 0 q) := by
  have hd := denomArr_apply s b
  have hp := posArr_apply b q
  have hc : coordArr (F := Ideal) s (ix2 b q)
      = Scalar.select (IntOp.cmpi .eq (s (ix1 b)) 1#32)
          (posArr (F := Ideal) (ix2 b q) + Ideal.div (Ideal.ofBits .f32 0x3F800000#32)
            (FloatOps.sitofp (F := Ideal) .f32 (denomArr s (ix2 b 0))))
          (Ideal.div (posArr (F := Ideal) (ix2 b q)) (FloatOps.sitofp (F := Ideal) .f32 (denomArr s (ix2 b 0)))) := by
    show Scalar.select (broadcastInDim _ _ _ _ (ix2 b q)) (posArr (F := Ideal) (ix2 b q) + broadcastInDim _ _ _ _ (ix2 b q))
      (Ideal.div _ (broadcastInDim _ _ _ _ (ix2 b q))) = _
    rw [column_apply, column_apply, column_apply]
    refine congrArg (fun t => Scalar.select t _ _) ?_
    refine (broadcastInDim_apply _ _ _ _ (ix1 b) fun a => ?_).trans rfl
    fin_cases a; rfl
  rw [hc, hd, hp]
  unfold coordOf
  refine Eq.trans ?_ (select_at _ _ _ _).symm
  rfl

/-- One, at every position. -/
theorem oneRow_apply (i : S16x2048.Idx) : (oneRow (F := Ideal)) i = 1 := Ideal.ofBits_one_f32

/-- One, at every element. -/
theorem oneArr_apply (i : S16x256x2048.Idx) : (oneArr (F := Ideal)) i = 1 := Ideal.ofBits_one_f32

/-- A row per batch, at an element. -/
theorem perChannel_apply {α : Type} (v : S16x2048.Idx → α) (b : Fin 16) (k : Fin 256) (q : Fin 2048) :
    perChannel v (ix3 b k q) = v (ix2 b q) := by
  refine (broadcastInDim_apply _ _ _ _ (ix3 b 0 q) fun a => ?_).trans
    (broadcastInDim_apply _ _ _ _ (ix2 b q) fun a => ?_)
  · fin_cases a <;> rfl
  · fin_cases a <;> rfl

/-- The place of a position is the same in both programs. -/
theorem place_eq (s : IVec S16 32) (b : Fin 16) (k : Fin 256) (q : Fin 2048) :
    (placeArr (F := Ideal) s) (ix3 b k q) = placeOf (F := Ideal) (s (ix1 b)) (ix2 0 q) := by
  refine (perChannel_apply _ b k q).trans ?_
  show Ideal.ofBits .f32 0x41A00000#32 * min (coordArr (F := Ideal) s (ix2 b q)) (oneRow (F := Ideal) (ix2 b q)) = _
  rw [coord_eq]
  rfl

/-- The bit of a valid position, as a number. -/
def maskAt (size : BitVec 32) (q : Fin 2048) : EReal :=
  ((((validOf (F := Ideal) size) (ix2 0 q)).toNat : ℝ) : EReal)

/-- The reference's mask at an element. -/
theorem mask_eq (s : IVec S16 32) (b : Fin 16) (k : Fin 256) (q : Fin 2048) :
    (maskArr (F := Ideal) s) (ix3 b k q) = maskAt (s (ix1 b)) q := by
  show (((perChannel (cmpf .ole (coordArr (F := Ideal) s) oneRow) (ix3 b k q)).toNat : ℝ) : EReal) = _
  rw [perChannel_apply]
  show (((FloatOps.cmpf .ole (coordArr (F := Ideal) s (ix2 b q)) _).toNat : ℝ) : EReal) = _
  rw [coord_eq]
  rfl

/-- One less the bit, times a number: the number where the bit is zero, zero where it is one. -/
theorem one_sub_bit_mul (v : BitVec 1) (c : EReal) :
    (1 - (((v.toNat : ℝ)) : EReal)) * c = Scalar.select v 0 c := by
  obtain rfl | rfl : v = 0#1 ∨ v = 1#1 := by
    revert v; decide
  · show (1 - (((0 : ℕ) : ℝ) : EReal)) * c = c
    simp
  · show (1 - (((1 : ℕ) : ℝ) : EReal)) * c = 0
    have : (1 : EReal) - 1 = 0 := by
      rw [← EReal.coe_one, ← EReal.coe_sub, sub_self, EReal.coe_zero]
    simp [this]

/-- The value sorted at an element is the same in both programs. -/
theorem key_eq (x : Vec Ideal S16x256x2048 .f32) (s : IVec S16 32) (b : Fin 16) (k : Fin 256) (q : Fin 2048) :
    (keyArr (F := Ideal) x s) (ix3 b k q) = startOf (F := Ideal) (s (ix1 b)) (blockAt x b (grp k)) (ix2 (rowIn k) q) := by
  have hm := mask_eq s b k q
  have hr : keyArr (F := Ideal) x s (ix3 b k q)
      = x (ix3 b k q) + (oneArr (F := Ideal) (ix3 b k q) - maskArr (F := Ideal) s (ix3 b k q))
        * Ideal.ofBits .f32 0xC7C34F80#32 := rfl
  have hx : shapeCast S32x2048 (blockAt x b (grp k)) Cert.KernelIdeal.Gen.shapeCasts_S1x32x2048_S32x2048 (ix2 (rowIn k) q)
      = x (ix3 b k q) := by
    refine (shapeCast_1ab_ab_apply _ _ _ _).trans ?_
    show x (ix3 b (chan (grp k) (rowIn k)) q) = _
    rw [Cert.KernelIdeal.Own.chan_grp]
  rw [hr, oneArr_apply, hm]
  unfold startOf maskAt
  rw [one_sub_bit_mul, addf_apply, hx, Cert.KernelIdeal.Own.spread_apply]
  refine congrArg (fun t => x (ix3 b k q) + t) ?_
  show Scalar.select _ 0 _ = Scalar.select _ (Ideal.ofBits .f32 0x00000000#32) _
  rw [Ideal.ofBits_zero_f32]
  rfl

end Cert.Agree

end
-- ==== Proof.Order.lean ====
/-
  The two permutations of a row are one: the reference's stable sort, reversed, and the kernel's network both put the
  positions in descending order of the pairs (value, position), and those pairs are distinct.
-/
module

public import proofs.«01_k».proof.Proof.Inputs
public import Idealize.ShloMosaic.Lib.SortFacts
public import Mathlib.Data.Prod.Lex
public import Mathlib.Order.WellFounded

@[expose] public section

set_option maxRecDepth 16384

noncomputable section

namespace Cert.Agree

open Idealize.ShloMosaic hiding ix1 ix2 ix3
open Idealize.ShloMosaic.TcCoe
open Idealize.ShloMosaic.ValueIdx
open Cert.ReferenceIdeal (S16 S256x21 S16x256 S16x256x2048 S16x2048)
open Cert.KernelIdeal.Own (startOf sortedOf permOf blockAt wblockAt grp rowIn chan)
open Cert.ReferenceIdeal.Own (keyArr)

/-! ## A stable sort orders the pairs (value, position) -/

section Stable
variable {n : Nat} {β : Type} [LinearOrder β] (f : Fin n → β)

/-- A position with its value. -/
def pairAt (k : Fin n) : β ×ₗ ℕ := toLex (f k, k.val)

/-- The pairs of distinct positions are distinct. -/
theorem pairAt_injective : Function.Injective (pairAt f) := fun a b h =>
  Fin.ext (congrArg (fun t : β ×ₗ ℕ => (ofLex t).2) h)

/-- Inserting a position that precedes all of an ordered list's keeps the list ordered. -/
theorem pairwise_insert (a : Fin n) : ∀ l : List (Fin n), l.Pairwise (fun b c => pairAt f b ≤ pairAt f c) →
    (∀ b ∈ l, a < b) →
    (insertBefore (fun b c => decide (f b < f c)) a l).Pairwise fun b c => pairAt f b ≤ pairAt f c
  | [], _, _ => List.pairwise_singleton _ _
  | b :: l, hl, ha => by
    obtain ⟨hb, hl'⟩ := List.pairwise_cons.1 hl
    unfold insertBefore
    split
    · rename_i h
      have hlt : f b < f a := of_decide_eq_true h
      refine List.pairwise_cons.2 ⟨fun c hc => ?_, pairwise_insert a l hl' fun c hc => ha c (List.mem_cons_of_mem _ hc)⟩
      rcases List.mem_cons.1 ((perm_insertBefore _ a l).mem_iff.1 hc) with rfl | hc'
      · exact Prod.Lex.toLex_le_toLex.2 (Or.inl hlt)
      · exact hb c hc'
    · rename_i h
      have hle : f a ≤ f b := not_lt.1 fun h' => h (decide_eq_true h')
      have hab : pairAt f a ≤ pairAt f b := by
        refine Prod.Lex.toLex_le_toLex.2 ?_
        rcases hle.lt_or_eq with h' | h'
        · exact Or.inl h'
        · exact Or.inr ⟨h', le_of_lt (ha b (List.mem_cons_self ..))⟩
      refine List.pairwise_cons.2 ⟨fun c hc => ?_, hl⟩
      rcases List.mem_cons.1 hc with rfl | hc'
      · exact hab
      · exact hab.trans (hb c hc')

/-- The stable sort by value of an ascending list of positions orders the pairs. -/
theorem pairwise_sort : ∀ l : List (Fin n), l.Pairwise (· < ·) →
    (stableSort (fun b c => decide (f b < f c)) l).Pairwise fun b c => pairAt f b ≤ pairAt f c
  | [], _ => List.Pairwise.nil
  | a :: l, hl => by
    obtain ⟨ha, hl'⟩ := List.pairwise_cons.1 hl
    unfold stableSort
    refine pairwise_insert f a _ (pairwise_sort l hl') fun b hb => ha b ?_
    exact (perm_stableSort _ l).mem_iff.1 hb

/-- The sorted positions ascend in their pairs. -/
theorem sortedFrom_strictMono : StrictMono fun k => pairAt f (sortedFrom (fun b c => decide (f b < f c)) k) := by
  intro i j hij
  refine lt_of_le_of_ne ?_ fun h => hij.ne (sortedFrom_injective _ (pairAt_injective f h))
  have hp := List.pairwise_iff_get.1 (pairwise_sort f (List.finRange n) (List.pairwise_lt_finRange n))
  exact hp (i.cast (length_sortPositions n _).symm) (j.cast (length_sortPositions n _).symm) hij

/-- A permutation of the positions that descends in their pairs is the stable sort, reversed. -/
theorem sortedFrom_rev (σ : Equiv.Perm (Fin n)) (hσ : Antitone fun k => pairAt f (σ k)) (k : Fin n) :
    sortedFrom (fun b c => decide (f b < f c)) k.rev = σ k := by
  have hs : StrictMono fun j : Fin n => pairAt f (σ j.rev) := by
    intro i j hij
    refine lt_of_le_of_ne (hσ (Fin.rev_le_rev.2 hij.le)) fun h => hij.ne ?_
    exact Fin.rev_injective (σ.injective (pairAt_injective f h))
  have hr : Set.range (fun j : Fin n => pairAt f (σ j.rev))
      = Set.range fun j => pairAt f (sortedFrom (fun b c => decide (f b < f c)) j) := by
    apply Set.Subset.antisymm
    · rintro _ ⟨j, rfl⟩
      obtain ⟨i, hi⟩ := sortedFrom_surjective (fun b c => decide (f b < f c)) (σ j.rev)
      exact ⟨i, congrArg (pairAt f) hi⟩
    · rintro _ ⟨j, rfl⟩
      refine ⟨(σ.symm (sortedFrom (fun b c => decide (f b < f c)) j)).rev, ?_⟩
      show pairAt f (σ _) = _
      rw [Fin.rev_rev, Equiv.apply_symm_apply]
  have he := congrFun ((hs.range_inj (sortedFrom_strictMono f)).1 hr) k.rev
  have he' : pairAt f (σ k.rev.rev) = pairAt f (sortedFrom (fun b c => decide (f b < f c)) k.rev) := he
  rw [Fin.rev_rev] at he'
  exact (pairAt_injective f he').symm

end Stable

/-! ## The reference's sort at an element -/

/-- The reference's comparator is the order of the values. -/
theorem comparator_apply (l r : EReal × BitVec 32) :
    (Cert.ReferenceIdeal.comparator_f32_i32_d2 (F := Ideal) l r == 1#1) = decide (l.1 < r.1) := by
  have hz : ∀ a : EReal, (Scalar.select (FloatOps.cmpf (F := Ideal) (φ := .f32) .une a a)
      (FloatOps.ofBits (F := Ideal) .f32 0x7FC00000#32)
      (Scalar.select (FloatOps.cmpf (F := Ideal) (φ := .f32) .oeq a (FloatOps.ofBits (F := Ideal) .f32 0x00000000#32))
        (FloatOps.ofBits (F := Ideal) .f32 0x00000000#32) a) : EReal) = a := by
    intro a
    have h1 : FloatOps.cmpf (F := Ideal) (φ := .f32) .une a a = 0#1 := by
      show BitVec.ofBool (decide (a ≠ a)) = 0#1
      rw [decide_eq_false (not_not.2 rfl)]
      rfl
    rw [h1]
    show Scalar.select (BitVec.ofBool (decide (a = Ideal.ofBits .f32 0x00000000#32))) (Ideal.ofBits .f32 0x00000000#32) a = a
    rw [Ideal.ofBits_zero_f32]
    by_cases h : a = 0
    · rw [decide_eq_true h, h]; rfl
    · rw [decide_eq_false h]; rfl
  have h : Cert.ReferenceIdeal.comparator_f32_i32_d2 (F := Ideal) l r = BitVec.ofBool (decide (l.1 < r.1)) := by
    unfold Cert.ReferenceIdeal.comparator_f32_i32_d2
    show FloatOps.cmpfTotal (F := Ideal) (φ := .f32) .lt _ _ = _
    rw [hz l.1, hz r.1]
    rfl
  rw [h]
  cases decide (l.1 < r.1) <;> rfl

/-- The second result of a sort of pairs, at an index whose line along the axis is `e`. -/
theorem sort2_snd {α γ : Type} (s : Shape) (d : Nat) (hd : d < s.rank) (cmp : α × γ → α × γ → BitVec 1) (x : s.Idx → α)
    (y : s.Idx → γ) (j : s.Idx) (e : Fin (s.size ⟨d, hd⟩) → s.Idx) (he : ∀ i, j.along ⟨d, hd⟩ i = e i) :
    (Host.sort2 s d cmp x y).2 j
      = y (e (sortedFrom (fun i i' => cmp (x (e i), y (e i)) (x (e i'), y (e i')) == 1#1) (j ⟨d, hd⟩))) := by
  obtain rfl : (fun i => j.along ⟨d, hd⟩ i) = e := funext he
  unfold Host.sort2
  rw [dif_pos hd]

/-- The same along the last axis of the programs' arrays. -/
theorem sort2_last {α γ : Type} (cmp : α × γ → α × γ → BitVec 1) (x : S16x256x2048.Idx → α) (y : S16x256x2048.Idx → γ)
    (b : Fin 16) (k : Fin 256) (q : Fin 2048) :
    (Host.sort2 S16x256x2048 2 cmp x y).2 (ix3 b k q)
      = y (ix3 b k (sortedFrom (n := 2048)
          (fun i i' => cmp (x (ix3 b k i), y (ix3 b k i)) (x (ix3 b k i'), y (ix3 b k i')) == 1#1) q)) :=
  sort2_snd S16x256x2048 2 (Nat.lt_succ_self 2) cmp x y (ix3 b k q) (fun i : Fin 2048 => ix3 b k i) fun i => by
    funext a
    match a with
    | ⟨0, _⟩ => rfl
    | ⟨1, _⟩ => rfl
    | ⟨2, _⟩ => rfl

/-- The reference's permutation at an element: the stable sort of the row's values, read from its end. -/
theorem refPerm_apply (x : Vec Ideal S16x256x2048 .f32) (s : IVec S16 32) (b : Fin 16) (k : Fin 256) (q : Fin 2048) :
    Cert.ReferenceIdeal.Own.permArr (F := Ideal) x s (ix3 b k q)
      = BitVec.ofNat 32 (sortedFrom (fun i j : Fin 2048 =>
          decide (keyArr (F := Ideal) x s (ix3 b k i) < keyArr (F := Ideal) x s (ix3 b k j))) q.rev).val := by
  have hrev : Cert.ReferenceIdeal.Own.permArr (F := Ideal) x s (ix3 b k q)
      = (Host.sort2 S16x256x2048 2 (Cert.ReferenceIdeal.comparator_f32_i32_d2 (F := Ideal)) (keyArr (F := Ideal) x s)
          (iotaInDim S16x256x2048 32 2)).2 (ix3 b k q.rev) := by
    refine congrArg (Host.sort2 S16x256x2048 2 (Cert.ReferenceIdeal.comparator_f32_i32_d2 (F := Ideal))
      (keyArr (F := Ideal) x s) (iotaInDim S16x256x2048 32 2)).2 (funext fun a => ?_)
    match a with
    | ⟨0, _⟩ => rfl
    | ⟨1, _⟩ => rfl
    | ⟨2, _⟩ => rfl
  have hy : ∀ p : Fin 2048, iotaInDim S16x256x2048 32 2 (ix3 b k p) = BitVec.ofNat 32 p.val := fun p => rfl
  rw [hrev, sort2_last, hy]
  refine congrArg (fun g : Fin 2048 → Fin 2048 → Bool => BitVec.ofNat 32 (sortedFrom g q.rev).val)
    (funext fun i => funext fun j => ?_)
  exact comparator_apply _ _

/-! ## The permutations -/

/-- The kernel's sorted row and the reference's permutation: one rearrangement of the row's positions gives both
    permutations and the sorted values. -/
theorem row_sorted (x : Vec Ideal S16x256x2048 .f32) (s : IVec S16 32) (b : Fin 16) (k : Fin 256) :
    ∃ σ : Equiv.Perm (Fin 2048), ∀ q,
      (sortedOf (F := Ideal) (s (ix1 b)) (blockAt x b (grp k))).1 (ix2 (rowIn k) q) = keyArr (F := Ideal) x s (ix3 b k (σ q))
      ∧ (sortedOf (F := Ideal) (s (ix1 b)) (blockAt x b (grp k))).2 (ix2 (rowIn k) q) = BitVec.ofNat 32 (σ q).val
      ∧ Cert.ReferenceIdeal.Own.permArr (F := Ideal) x s (ix3 b k q) = BitVec.ofNat 32 (σ q).val := by
  obtain ⟨σ, hv, ha⟩ := Cert.KernelIdeal.Own.sorted_row (s (ix1 b)) (blockAt x b (grp k)) (rowIn k)
  have hk : (fun q => keyArr (F := Ideal) x s (ix3 b k q))
      = fun q => startOf (F := Ideal) (s (ix1 b)) (blockAt x b (grp k)) (ix2 (rowIn k) q) :=
    funext fun q => key_eq x s b k q
  have ha' : Antitone fun q => pairAt (fun q => keyArr (F := Ideal) x s (ix3 b k q)) (σ q) := by
    rw [hk]; exact ha
  refine ⟨σ, fun q => ⟨(hv q).1.trans (key_eq x s b k (σ q)).symm, (hv q).2, ?_⟩⟩
  refine (refPerm_apply x s b k q).trans (congrArg (fun t : Fin 2048 => BitVec.ofNat 32 t.val) ?_)
  exact sortedFrom_rev (fun q => keyArr (F := Ideal) x s (ix3 b k q)) σ ha' q

/-- The permutation result is the same in both programs. -/
theorem perm_eq (x : Vec Ideal S16x256x2048 .f32) (s : IVec S16 32) :
    Cert.KernelIdeal.Own.permArr (F := Ideal) x s = Cert.ReferenceIdeal.Own.permArr (F := Ideal) x s := by
  funext i
  obtain ⟨b, k, q, rfl⟩ : ∃ (b : Fin 16) (k : Fin 256) (q : Fin 2048), i = ix3 b k q := ⟨_, _, _, ValueIdx.eq_ix3 i⟩
  obtain ⟨σ, h⟩ := row_sorted x s b k
  refine Eq.trans ?_ ((h q).2.1.trans (h q).2.2.symm)
  exact shapeCast_ab_1ab_apply _ _ _ _ _

end Cert.Agree

end
-- ==== Proof.Hat.lean ====
/-
  Interpolation between 21 pieces as a sum over all of them: at a place `t` in `[0, 20]` the hat functions
  `max (1 - |t - p|) 0` pick out the piece below `t` and the one above it, with the weights of a linear interpolation.
-/
module

public import Mathlib.Data.EReal.Operations
public import Mathlib.Algebra.Order.Floor.Semiring
public import Mathlib.Algebra.BigOperators.Fin
public import Mathlib.Tactic.Linarith
public import Mathlib.Tactic.NormNum
public import Mathlib.Tactic.Ring

@[expose] public section

noncomputable section

namespace Cert.Agree

/-- The piece below a place. -/
def below (t : ℝ) : ℕ := ⌊t⌋₊

/-- The piece below a place in `[0, 20]` is one of the 21. -/
theorem below_lt {t : ℝ} (h0 : 0 ≤ t) (h1 : t ≤ 20) : below t < 21 :=
  (Nat.floor_lt h0).2 (by norm_num; linarith)

/-- The larger of two real numbers. -/
theorem coe_max (a b : ℝ) : ((max a b : ℝ) : EReal) = max (a : EReal) (b : EReal) :=
  EReal.coe_strictMono.monotone.map_max

/-- The smaller of two real numbers. -/
theorem coe_min (a b : ℝ) : ((min a b : ℝ) : EReal) = min (a : EReal) (b : EReal) :=
  EReal.coe_strictMono.monotone.map_min

/-- The hat function at a piece is a real number. -/
theorem hat_coe (t p : ℝ) :
    max ((1 : EReal) - max ((t : EReal) - (p : EReal)) (-((t : EReal) - (p : EReal)))) 0
      = ((max (1 - |t - p|) 0 : ℝ) : EReal) := by
  rw [← EReal.coe_sub, ← EReal.coe_neg, ← EReal.coe_one, ← EReal.coe_zero, ← coe_max, ← EReal.coe_sub,
    ← coe_max]
  rfl

/-- The hat function at a piece one or more away is zero. -/
theorem hat_far {t p : ℝ} (h : 1 ≤ |t - p|) : max (1 - |t - p|) 0 = 0 := max_eq_right (by linarith)

/-- The hat function at a piece at most one below. -/
theorem hat_left {t p : ℝ} (h0 : p ≤ t) (h1 : t ≤ p + 1) : max (1 - |t - p|) 0 = 1 - (t - p) := by
  rw [abs_of_nonneg (by linarith)]
  exact max_eq_left (by linarith)

/-- The hat function at a piece at most one above. -/
theorem hat_right {t p : ℝ} (h0 : t ≤ p) (h1 : p ≤ t + 1) : max (1 - |t - p|) 0 = 1 - (p - t) := by
  rw [abs_of_nonpos (by linarith)]
  exact (max_eq_left (by linarith)).trans (by ring)

/-- A piece other than the one below a place and the next is one or more away from it. -/
theorem far_of_ne {t : ℝ} (h0 : 0 ≤ t) (p : ℕ) (hn : p ≠ below t) (hn' : p ≠ below t + 1) : 1 ≤ |t - (p : ℝ)| := by
  have hlo : (below t : ℝ) ≤ t := Nat.floor_le h0
  have hhi : t < (below t : ℝ) + 1 := Nat.lt_floor_add_one t
  rcases Nat.lt_or_ge p (below t) with h | h
  · have : (p : ℝ) + 1 ≤ below t := by exact_mod_cast h
    exact le_trans (by linarith) (le_abs_self _)
  · have h2 : below t + 2 ≤ p := by omega
    have : (below t : ℝ) + 2 ≤ p := by exact_mod_cast h2
    exact le_trans (by linarith) (neg_le_abs _)

/-- The sum of the pieces by their hat functions is the interpolation between the two next to the place. -/
theorem hat_sum (w : Fin 21 → EReal) {t : ℝ} (h0 : 0 ≤ t) (h1 : t ≤ 20) (n n' : Fin 21) (hn : n.val = below t)
    (hn' : n'.val = min (below t + 1) 20) :
    ∑ p : Fin 21, w p * ((max (1 - |t - (p.val : ℝ)|) 0 : ℝ) : EReal)
      = ((1 - (t - (below t : ℝ)) : ℝ) : EReal) * w n + ((t - (below t : ℝ) : ℝ) : EReal) * w n' := by
  have hlo : (below t : ℝ) ≤ t := Nat.floor_le h0
  have hhi : t < (below t : ℝ) + 1 := Nat.lt_floor_add_one t
  have hleft : max (1 - |t - (n.val : ℝ)|) 0 = 1 - (t - (below t : ℝ)) := by
    rw [hn]; exact hat_left hlo hhi.le
  rcases Nat.lt_or_ge (below t) 20 with h | h
  · have hv : n'.val = below t + 1 := by omega
    have hne : n ≠ n' := fun e => by have := congrArg Fin.val e; omega
    have hright : max (1 - |t - (n'.val : ℝ)|) 0 = t - (below t : ℝ) := by
      rw [hv, Nat.cast_add, Nat.cast_one, hat_right hhi.le (by linarith)]; ring
    rw [Finset.sum_eq_add n n' hne]
    · rw [hleft, hright, EReal.mul_comm (w n), EReal.mul_comm (w n')]
    · rintro p - ⟨hp, hp'⟩
      have hf := far_of_ne h0 p.val (fun e => hp (Fin.ext (by omega))) fun e => hp' (Fin.ext (by omega))
      rw [hat_far hf, EReal.coe_zero, mul_zero]
    · exact fun hc => absurd (Finset.mem_univ _) hc
    · exact fun hc => absurd (Finset.mem_univ _) hc
  · have hb : below t = 20 := by have := below_lt h0 h1; omega
    have ht : t = 20 := by
      rw [hb] at hlo; norm_num at hlo; linarith
    have hz : t - (below t : ℝ) = 0 := by rw [hb, ht]; norm_num
    rw [Finset.sum_eq_single n]
    · rw [hleft, hz, EReal.coe_zero, zero_mul, add_zero, EReal.mul_comm]
    · intro p _ hp
      have hf := far_of_ne h0 p.val (fun e => hp (Fin.ext (by omega))) fun e => by omega
      rw [hat_far hf, EReal.coe_zero, mul_zero]
    · exact fun hc => absurd (Finset.mem_univ _) hc

end Cert.Agree

end
-- ==== Proof.Weights.lean ====
/-
  The interpolated weight of a position is the same in both programs: the kernel sums all 21 pieces by their hat
  functions, the reference reads the two pieces next to the position's place.
-/
module

public import proofs.«01_k».proof.Proof.Inputs
public import proofs.«01_k».proof.Proof.Hat
public import Mathlib.Algebra.BigOperators.Fin
public import Mathlib.Tactic.FinCases

@[expose] public section

set_option maxRecDepth 16384

noncomputable section

namespace Cert.Agree

open Idealize.ShloMosaic hiding ix1 ix2 ix3
open Idealize.ShloMosaic.TcCoe
open Idealize.ShloMosaic.ValueIdx
open Cert.ReferenceIdeal (S16 S256x21 S16x256 S16x256x2048 S16x2048)
open Cert.KernelIdeal (S32x1 S32x2048 S1x2048 S32x21)
open Cert.KernelIdeal.Own (coordOf placeOf hatTerm hatBits weightOf colOf wblockAt grp rowIn chan lane)
open Cert.ReferenceIdeal.Own (placeArr pieceArr fracArr nextArr interpArr oneArr takeW takeW_apply)

/-! ## The places -/

/-- The words of the hat functions' places are the numbers 0 to 20. -/
theorem hatBits_val (p : Fin 21) : Ideal.ofBits .f32 (hatBits.getD p.val 0#32) = ((p.val : ℝ) : EReal) := by
  fin_cases p <;> simp [hatBits, Ideal.ofBits, Ideal.ieee, -EReal.coe_mul] <;> norm_num

/-- The divisor of a row is a positive number. -/
theorem denom_pos (size : BitVec 32) : 0 < ((Scalar.maxsi (Scalar.subi size 1#32) 1#32).toInt : ℝ) := by
  have h : 0 < (Scalar.maxsi (Scalar.subi size 1#32) 1#32).toInt := by
    show 0 < (IntOp.maxsi (IntOp.subi size 1#32) 1#32).toInt
    unfold IntOp.maxsi
    split
    · rename_i h
      rw [BitVec.slt_eq_decide, decide_eq_true_eq] at h
      exact lt_trans (by decide) h
    · decide
  exact_mod_cast h

/-- A coordinate is a real number, and not negative. -/
theorem coord_real (size : BitVec 32) (q : Fin 2048) :
    ∃ c : ℝ, 0 ≤ c ∧ coordOf (F := Ideal) size (ix2 0 q) = (c : EReal) := by
  have hd := denom_pos size
  have hl : (sitofp (F := Ideal) .f32 lane : FVec Ideal S1x2048 .f32) (ix2 0 q) = ((q.val : ℝ) : EReal) := by
    show (((lane (ix2 0 q)).toInt : ℝ) : EReal) = _
    rw [Cert.KernelIdeal.Own.lane_apply, WordCmp.toInt_ofNat_of_lt (by omega)]
    norm_cast
  have hq : (0 : ℝ) ≤ q.val := Nat.cast_nonneg _
  unfold coordOf
  rw [select_at]
  rcases (by decide : ∀ c : BitVec 1, c = 0#1 ∨ c = 1#1) (Scalar.cmpi .eq size 1#32) with h | h
  · refine ⟨q.val * (1 / ((Scalar.maxsi (Scalar.subi size 1#32) 1#32).toInt : ℝ)), by positivity, ?_⟩
    rw [h]
    show Ideal.div ((sitofp (F := Ideal) .f32 lane : FVec Ideal S1x2048 .f32) (ix2 0 q))
      (((Scalar.maxsi (Scalar.subi size 1#32) 1#32).toInt : ℝ) : EReal) = _
    rw [hl, Ideal.div_coe hd.ne', ← EReal.coe_mul]
  · refine ⟨q.val + 1 * (1 / ((Scalar.maxsi (Scalar.subi size 1#32) 1#32).toInt : ℝ)), by positivity, ?_⟩
    rw [h]
    show (sitofp (F := Ideal) .f32 lane : FVec Ideal S1x2048 .f32) (ix2 0 q) + Ideal.div (Ideal.ofBits .f32 0x3F800000#32)
      (((Scalar.maxsi (Scalar.subi size 1#32) 1#32).toInt : ℝ) : EReal) = _
    rw [hl, Ideal.ofBits_one_f32, Ideal.div_coe hd.ne', EReal.coe_add, EReal.coe_mul, EReal.coe_one]

/-- A place is a real number in `[0, 20]`. -/
theorem place_real (size : BitVec 32) (q : Fin 2048) :
    ∃ t : ℝ, 0 ≤ t ∧ t ≤ 20 ∧ placeOf (F := Ideal) size (ix2 0 q) = (t : EReal) := by
  obtain ⟨c, hc, e⟩ := coord_real size q
  refine ⟨20 * min c 1, by positivity, ?_, ?_⟩
  · have : min c 1 ≤ 1 := min_le_right _ _
    linarith
  · show Ideal.ofBits .f32 0x41A00000#32 * min (coordOf (F := Ideal) size (ix2 0 q)) (Ideal.ofBits .f32 0x3F800000#32) = _
    have h20 : Ideal.ofBits .f32 0x41A00000#32 = ((20 : ℝ) : EReal) := by
      refine (hatBits_val 20).trans ?_
      norm_num
    rw [e, h20, Ideal.ofBits_one_f32, EReal.coe_mul, coe_min, EReal.coe_one]

/-! ## The kernel's weight -/

/-- A sum of arrays taken one after the other, at an index. -/
theorem foldl_addf_apply {ι : Type} {S : Shape} (T : ι → FVec Ideal S .f32) (i : S.Idx) :
    ∀ (l : List ι) (a : FVec Ideal S .f32), l.foldl (fun acc p => addf acc (T p)) a i = a i + (l.map fun p => T p i).sum
  | [], a => (add_zero (a i : EReal)).symm
  | p :: l, a => by
    rw [List.foldl_cons, foldl_addf_apply T i l, List.map_cons, List.sum_cons, addf_apply]
    exact add_assoc (a i : EReal) (T p i) _

/-- A piece's share of the weight at a position. -/
theorem hatTerm_apply (size : BitVec 32) (p : Fin 21) (col : Vec Ideal S32x1 .f32) (r : Fin 32) (q : Fin 2048) {t : ℝ}
    (ht : placeOf (F := Ideal) size (ix2 0 q) = (t : EReal)) :
    hatTerm (F := Ideal) size (hatBits.getD p.val 0#32) col (ix2 r q)
      = col (ix2 r 0) * ((max (1 - |t - (p.val : ℝ)|) 0 : ℝ) : EReal) := by
  have hcol : broadcastTo S32x2048 col Cert.KernelIdeal.Gen.broadcasts_S32x1_S32x2048 (ix2 r q) = col (ix2 r 0) :=
    broadcastTo_apply _ _ _ (ix2 r 0) fun a => by fin_cases a <;> rfl
  unfold hatTerm
  rw [mulf_apply, hcol, Cert.KernelIdeal.Own.spread_apply]
  refine congrArg (fun u : EReal => col (ix2 r 0) * u) ?_
  show max (Ideal.ofBits .f32 0x3F800000#32
      - max (placeOf (F := Ideal) size (ix2 0 q) - Ideal.ofBits .f32 (hatBits.getD p.val 0#32))
        (-(placeOf (F := Ideal) size (ix2 0 q) - Ideal.ofBits .f32 (hatBits.getD p.val 0#32))))
      (Ideal.ofBits .f32 0x00000000#32) = _
  rw [ht, hatBits_val, Ideal.ofBits_one_f32, Ideal.ofBits_zero_f32, hat_coe]

/-- The kernel's weight at a position: the sum of the pieces by their hat functions. -/
theorem weightOf_apply (size : BitVec 32) (col : Fin 21 → Vec Ideal S32x1 .f32) (r : Fin 32) (q : Fin 2048) {t : ℝ}
    (ht : placeOf (F := Ideal) size (ix2 0 q) = (t : EReal)) :
    weightOf (F := Ideal) size col (ix2 r q)
      = ∑ p : Fin 21, (col p (ix2 r 0) : EReal) * ((max (1 - |t - (p.val : ℝ)|) 0 : ℝ) : EReal) := by
  unfold weightOf
  rw [foldl_addf_apply]
  have hz : (broadcast S32x2048 (Scalar.ofBits (F := Ideal) .f32 0x00000000#32) : FVec Ideal S32x2048 .f32) (ix2 r q)
      = (0 : EReal) := Ideal.ofBits_zero_f32
  rw [hz, zero_add, ← Fin.sum_univ_def]
  exact Finset.sum_congr rfl fun p _ => hatTerm_apply size p (col p) r q ht

/-! ## The reference's weight -/

/-- The word of the piece below a place. -/
theorem piece_word {t : ℝ} (h0 : 0 ≤ t) (h1 : t ≤ 20) : Ideal.fptosi 32 (t : EReal) = BitVec.ofNat 32 (below t) := by
  have hb := below_lt h0 h1
  have hf : ⌊t⌋ = ((below t : ℕ) : ℤ) := (Int.natCast_floor_eq_floor h0).symm
  unfold Ideal.fptosi
  rw [Ideal.toIntClamped_coe, if_pos h0, hf, min_eq_right (by norm_num; omega), max_eq_right (by norm_num)]
  exact BitVec.ofInt_natCast 32 (below t)

/-- The word of the next piece. -/
theorem next_word {n : ℕ} (hn : n < 21) :
    IntOp.minsi (IntOp.addi (BitVec.ofNat 32 n) 1#32) 20#32 = BitVec.ofNat 32 (min (n + 1) 20) := by
  interval_cases n <;> decide

/-- The weight of an element is the same in both programs. -/
theorem weight_eq (s : IVec S16 32) (w : Vec Ideal S256x21 .f32) (b : Fin 16) (k : Fin 256) (q : Fin 2048) :
    weightOf (F := Ideal) (s (ix1 b)) (colOf (wblockAt w (grp k))) (ix2 (rowIn k) q)
      = interpArr (F := Ideal) s w (ix3 b k q) := by
  obtain ⟨t, h0, h1, ht⟩ := place_real (s (ix1 b)) q
  have hb := below_lt h0 h1
  have hpl : placeArr (F := Ideal) s (ix3 b k q) = (t : EReal) := (place_eq s b k q).trans ht
  have hpi : pieceArr (F := Ideal) s (ix3 b k q) = BitVec.ofNat 32 (below t) := by
    show Ideal.fptosi 32 (placeArr (F := Ideal) s (ix3 b k q)) = _
    rw [hpl, piece_word h0 h1]
  have hne : nextArr (F := Ideal) s (ix3 b k q) = BitVec.ofNat 32 (min (below t + 1) 20) := by
    show IntOp.minsi (IntOp.addi (pieceArr (F := Ideal) s (ix3 b k q)) 1#32) 20#32 = _
    rw [hpi, next_word hb]
  have hfr : fracArr (F := Ideal) s (ix3 b k q) = ((t - (below t : ℝ) : ℝ) : EReal) := by
    show placeArr (F := Ideal) s (ix3 b k q) - (((pieceArr (F := Ideal) s (ix3 b k q)).toInt : ℝ) : EReal) = _
    rw [hpl, hpi, WordCmp.toInt_ofNat_of_lt (by omega), EReal.coe_sub]
    norm_cast
  have hcol : ∀ p : Fin 21, colOf (wblockAt w (grp k)) p (ix2 (rowIn k) 0) = w (ix2 k p) := fun p => by
    show w (ix2 (chan (grp k) (rowIn k)) p) = _
    rw [Cert.KernelIdeal.Own.chan_grp]
  have hin : interpArr (F := Ideal) s w (ix3 b k q)
      = (oneArr (F := Ideal) (ix3 b k q) - fracArr (F := Ideal) s (ix3 b k q)) * takeW w (pieceArr (F := Ideal) s) (ix3 b k q)
        + fracArr (F := Ideal) s (ix3 b k q) * takeW w (nextArr (F := Ideal) s) (ix3 b k q) := rfl
  rw [weightOf_apply _ _ _ _ ht, hin, takeW_apply w _ b k q ⟨below t, hb⟩ hpi,
    takeW_apply w _ b k q ⟨min (below t + 1) 20, by omega⟩ hne, oneArr_apply, hfr, ← EReal.coe_one, ← EReal.coe_sub,
    ← hat_sum (fun p => w (ix2 k p)) h0 h1 ⟨below t, hb⟩ ⟨min (below t + 1) 20, by omega⟩ rfl rfl]
  exact Finset.sum_congr rfl fun p _ => by rw [hcol]

end Cert.Agree

end
-- ==== Proof.Pooled.lean ====
/-
  The pooled sums are the same in both programs: at every position of a row the kernel adds up
  (value * mask) * weight and the reference (value * weight) * mask, of the same value, mask and weight.
-/
module

public import proofs.«01_k».proof.Proof.Order
public import proofs.«01_k».proof.Proof.Weights
public import Idealize.ShloMosaic.Lib.ValueLayoutCasts

@[expose] public section

set_option maxRecDepth 16384

noncomputable section

namespace Cert.Agree

open Idealize.ShloMosaic hiding ix1 ix2 ix3
open Idealize.ShloMosaic.TcCoe
open Idealize.ShloMosaic.ValueIdx
open Cert.ReferenceIdeal (S16 S256x21 S16x256 S16x256x2048 S16x2048)
open Cert.KernelIdeal (S32 S32x1 S32x2048 S1x2048 S1x32x2048)
open Cert.KernelIdeal.Own (validOf sortedOf weightOf pooledOf colOf blockAt wblockAt grp rowIn chan pooledRes)
open Cert.ReferenceIdeal.Own (keyArr maskArr interpArr takeX takeX_apply)

/-- A sum over the last axis of a block, at a row. -/
theorem sum_row (v : FVec Ideal S32x2048 .f32) (r : Fin 32) :
    multiReduction .add [1] S32 v 0x00000000#32 Cert.KernelIdeal.Gen.reduces_S32x2048_S32 (.inl rfl) rfl (ix1 r)
      = ∑ q : Fin 2048, (v (ix2 r q) : EReal) := by
  refine (Ideal.multiReduction_add_single v _ _ _ _ _).trans (Finset.sum_congr rfl fun q _ => congrArg v (funext fun a => ?_))
  match a with
  | ⟨0, _⟩ => rfl
  | ⟨1, _⟩ => rfl

/-- A sum over the last axis of the reference's array, at a row. -/
theorem sum_line (v : FVec Ideal S16x256x2048 .f32) (b : Fin 16) (k : Fin 256) :
    Host.reduceAdd v (constant Cert.ReferenceIdeal.S_ .f32 0x00000000#32)
        Cert.ReferenceIdeal.Gen.reducesTo_S16x256x2048_S16x256_d2 Cert.ReferenceIdeal.Gen.h_S_ (ix2 b k)
      = ∑ q : Fin 2048, (v (ix3 b k q) : EReal) := by
  have hR : S16x256x2048.Reduces [2] S16x256 := by decide
  refine (Ideal.hostReduceAdd_single _ hR v (Ideal.ofBits .f32 0x00000000#32) (ix2 b k)).trans ?_
  rw [Ideal.ofBits_zero_f32, zero_add]
  refine Finset.sum_congr rfl fun q _ => congrArg v (funext fun a => ?_)
  match a with
  | ⟨0, _⟩ => rfl
  | ⟨1, _⟩ => rfl
  | ⟨2, _⟩ => rfl

/-- The number of a bit widened to a word is the bit's. -/
theorem bit_word : ∀ v : BitVec 1, (v.zeroExtend 32).toInt = (v.toNat : ℤ) := by decide

/-- The kernel's pooled sum of a row. -/
theorem pooledOf_apply (size : BitVec 32) (x : Vec Ideal S1x32x2048 .f32) (col : Fin 21 → Vec Ideal S32x1 .f32)
    (r : Fin 32) :
    pooledOf (F := Ideal) size x col (ix3 0 r 0)
      = ∑ q : Fin 2048, ((sortedOf (F := Ideal) size x).1 (ix2 r q) * maskAt size q) * weightOf (F := Ideal) size col (ix2 r q) := by
  unfold pooledOf
  refine (shapeCast_ab_1ab_apply _ _ _ _ _).trans ((shapeCast_a_a1_apply _ _ _ _).trans ((sum_row _ r).trans ?_))
  refine Finset.sum_congr rfl fun q _ => ?_
  rw [mulf_apply, mulf_apply, Cert.KernelIdeal.Own.spread_apply]
  refine congrArg (fun u : EReal => ((sortedOf (F := Ideal) size x).1 (ix2 r q) * u) * weightOf (F := Ideal) size col (ix2 r q)) ?_
  show (((validOf (F := Ideal) size (ix2 0 q)).zeroExtend 32).toInt : ℝ) = (_ : EReal)
  rw [bit_word]
  unfold maskAt
  norm_cast

/-- The pooled result is the same in both programs. -/
theorem pooled_eq (x : Vec Ideal S16x256x2048 .f32) (s : IVec S16 32) (w : Vec Ideal S256x21 .f32) :
    pooledRes (F := Ideal) x s w = Cert.ReferenceIdeal.Own.pooledArr (F := Ideal) x s w := by
  funext i
  obtain ⟨b, k, rfl⟩ : ∃ (b : Fin 16) (k : Fin 256), i = ix2 b k := ⟨_, _, ValueIdx.eq_ix2 i⟩
  have hl : pooledRes (F := Ideal) x s w (ix2 b k)
      = pooledOf (F := Ideal) (s (ix1 b)) (blockAt x b (grp k)) (colOf (wblockAt w (grp k))) (ix3 0 (rowIn k) 0) := by
    refine shapeCast_apply _ _ (ix2 b k) (ix3 b k 0) ?_
    rw [Shape.rowMajor_val_three, Shape.rowMajor_val_two]
    show (b.val * 256 + k.val) * 1 + 0 = b.val * 256 + k.val
    omega
  rw [hl, pooledOf_apply]
  unfold Cert.ReferenceIdeal.Own.pooledArr
  rw [sum_line]
  obtain ⟨σ, h⟩ := row_sorted x s b k
  refine Finset.sum_congr rfl fun q _ => ?_
  rw [mulf_apply, mulf_apply, takeX_apply _ _ b k q (σ q) (h q).2.2, mask_eq, ← weight_eq, (h q).1]
  exact mul_right_comm (_ : EReal) _ _

end Cert.Agree

end
-- ==== Proof.lean ====
/-
  The certificate: the kernel, its idealization and the reference run and leave their arguments as they were, and over
  the reals the kernel and the reference end with the same two results, the pooled sums and the permutation.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Arrays
public import proofs.«01_k».proof.Proof.Reference
public import proofs.«01_k».proof.Proof.Order
public import proofs.«01_k».proof.Proof.Pooled
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's frame. -/
theorem frame_kernel : Cert.quiescent_Kernel (hKernel := Cert.Kernel.Gen.facts) :=
  fun m g _ => Cert.Kernel.Gen.frame m g trivial

/-- The frame of the kernel over the reals. -/
theorem frame_kernelIdeal : Cert.quiescent_KernelIdeal (hKernelIdeal := Cert.KernelIdeal.Gen.facts) :=
  fun m g _ => Cert.KernelIdeal.Gen.frame m g trivial

/-- The reference's frame: it leaves its arguments, and it has no semaphores. -/
theorem frame_reference : Cert.quiescent_ReferenceIdeal (hReferenceIdeal := Cert.ReferenceIdeal.Gen.facts) :=
  fun m g _ => (θ_run Cert.ReferenceIdeal.defs _ _).mono
    (fun r h => ⟨fun c => (h c).2.2, sem_eq_zero_of_no_sems rfl _⟩) (Cert.ReferenceIdeal.Own.run m g)

/-- Over the reals the kernel and the reference end with equal results. -/
theorem results_equal : Cert.algebraic_KernelIdeal_ReferenceIdeal (hKernelIdeal := Cert.KernelIdeal.Gen.facts)
    (hReferenceIdeal := Cert.ReferenceIdeal.Gen.facts) := by
  intro m g m' g' _ hargs
  refine ⟨_, _, Cert.KernelIdeal.Own.run m g,
    (θ_run Cert.ReferenceIdeal.defs _ _).mono (fun r h c => ⟨?_, ?_, (h c).2.2⟩) (Cert.ReferenceIdeal.Own.run m' g')⟩
  · refine (h c).1.trans ?_
    rw [(hargs c).1, (hargs c).2.1, (hargs c).2.2]
    exact (Cert.Agree.pooled_eq _ _ _).symm
  · refine (h c).2.1.trans ?_
    rw [(hargs c).1, (hargs c).2.1]
    exact (Cert.Agree.perm_eq _ _).symm

/-- The certificate. -/
theorem claim : Cert.Claim :=
  ⟨Cert.Kernel.Gen.facts, Cert.KernelIdeal.Gen.facts, Cert.ReferenceIdeal.Gen.facts,
    frame_kernel, frame_kernelIdeal, frame_reference, trivial, results_equal⟩

end Cert.Proof

end
